-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tokens_and_finite [hPre_tokens_and_finite : Cert.Pre_tokens_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_tokens_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_tokens_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_and_finite [hPre_tokens_and_finite : Cert.Pre_tokens_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_tokens_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_tokens_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_tokens_and_finite [hKernelIdeal : Cert.KernelIdeal.Facts] [hPre_tokens_and_finite : Cert.Pre_tokens_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_tokens_and_finite [hReferenceIdeal : Cert.ReferenceIdeal.Facts] [hPre_tokens_and_finite : Cert.Pre_tokens_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_tokens_and_finite [hKernelIdeal : Cert.KernelIdeal.Facts] [hReferenceIdeal : Cert.ReferenceIdeal.Facts] [hPre_tokens_and_finite : Cert.Pre_tokens_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_tokens_and_finite : Cert.Pre_tokens_and_finite.Facts),
    quiescent_Kernel (hKernel := hKernel)
    ∧ quiescent_KernelIdeal (hKernelIdeal := hKernelIdeal)
    ∧ quiescent_KernelIdeal_pre_tokens_and_finite (hKernelIdeal := hKernelIdeal) (hPre_tokens_and_finite := hPre_tokens_and_finite)
    ∧ quiescent_ReferenceIdeal (hReferenceIdeal := hReferenceIdeal)
    ∧ quiescent_ReferenceIdeal_pre_tokens_and_finite (hReferenceIdeal := hReferenceIdeal) (hPre_tokens_and_finite := hPre_tokens_and_finite)
    ∧ preserves_Kernel_KernelIdeal
    ∧ algebraic_KernelIdeal_ReferenceIdeal_pre_tokens_and_finite (hKernelIdeal := hKernelIdeal) (hReferenceIdeal := hReferenceIdeal) (hPre_tokens_and_finite := hPre_tokens_and_finite)
-- ==== Pre_tokens_and_finite.lean ====
abbrev S64x128 : Shape := ⟨2, ![64, 128]⟩
abbrev S2560x1 : Shape := ⟨2, ![2560, 1]⟩
abbrev S6553600x1 : Shape := ⟨2, ![6553600, 1]⟩
abbrev S_ : Shape := ⟨0, ![]⟩

class Facts : Prop where
  bcast_S_S64x128 : S_.BroadcastsInDim S64x128 (![] : Fin 0 → Fin S64x128.rank)
  bcast_S_S2560x1 : S_.BroadcastsInDim S2560x1 (![] : Fin 0 → Fin S2560x1.rank)
  bcast_S_S6553600x1 : S_.BroadcastsInDim S6553600x1 (![] : Fin 0 → Fin S6553600x1.rank)

variable [Facts]

def fn {F : FTy → Type} [FloatOps F] (main_arg0 : IVec S64x128 32) (main_arg1 : FVec F S2560x1 .f32) (main_arg2 : FVec F S6553600x1 .f32) : IVec S64x128 1 × IVec S2560x1 1 × IVec S6553600x1 1 :=
  let main_c : IVec S_ 32 := constantI S_ 32 0#32
  let main_v0 : IVec S64x128 32 := broadcastInDim S64x128 ![] bcast_S_S64x128 main_c
  let main_v1 : IVec S64x128 1 := cmpi .sge main_arg0 main_v0
  let main_c_0 : IVec S_ 32 := constantI S_ 32 20#32
  let main_v2 : IVec S64x128 32 := broadcastInDim S64x128 ![] bcast_S_S64x128 main_c_0
  let main_v3 : IVec S64x128 1 := cmpi .slt main_arg0 main_v2
  let main_v4 : IVec S64x128 1 := andi main_v1 main_v3
  let main_v5 : FVec F S2560x1 .f32 := Host.absf main_arg1
  let main_cst : FVec F S_ .f32 := constant S_ .f32 0x7F800000#32
  let main_v6 : FVec F S2560x1 .f32 := broadcastInDim S2560x1 ![] bcast_S_S2560x1 main_cst
  let main_v7 : IVec S2560x1 1 := cmpf .olt main_v5 main_v6
  let main_v8 : FVec F S6553600x1 .f32 := Host.absf main_arg2
  let main_cst_1 : FVec F S_ .f32 := constant S_ .f32 0x7F800000#32
  let main_v9 : FVec F S6553600x1 .f32 := broadcastInDim S6553600x1 ![] bcast_S_S6553600x1 main_cst_1
  let main_v10 : IVec S6553600x1 1 := cmpf .olt main_v8 main_v9
  (main_v4, main_v7, main_v10)
-- ==== Kernel.lean ====
abbrev S64x128 : Shape := ⟨2, ![64, 128]⟩
abbrev S2560x1 : Shape := ⟨2, ![2560, 1]⟩
abbrev S6553600x1 : Shape := ⟨2, ![6553600, 1]⟩
abbrev S20x128 : Shape := ⟨2, ![20, 128]⟩
abbrev S51200x128 : Shape := ⟨2, ![51200, 128]⟩
abbrev S1x1 : Shape := ⟨2, ![1, 1]⟩
abbrev S3200x128 : Shape := ⟨2, ![3200, 128]⟩
abbrev S128x2560 : Shape := ⟨2, ![128, 2560]⟩
abbrev S64x1 : Shape := ⟨2, ![64, 1]⟩
abbrev S64x2560 : Shape := ⟨2, ![64, 2560]⟩
abbrev S8x16x25x128 : Shape := ⟨4, ![8, 16, 25, 128]⟩
abbrev S8x16x1x128 : Shape := ⟨4, ![8, 16, 1, 128]⟩
abbrev S8x16x128 : Shape := ⟨3, ![8, 16, 128]⟩
abbrev S128x128 : Shape := ⟨2, ![128, 128]⟩
abbrev S128x3200 : Shape := ⟨2, ![128, 3200]⟩
abbrev S128x8x400 : Shape := ⟨3, ![128, 8, 400]⟩
abbrev S1x2560 : Shape := ⟨2, ![1, 2560]⟩
abbrev S64x20 : Shape := ⟨2, ![64, 20]⟩
abbrev S1x400 : Shape := ⟨2, ![1, 400]⟩
abbrev S400x20 : Shape := ⟨2, ![400, 20]⟩
abbrev S128x20 : Shape := ⟨2, ![128, 20]⟩
abbrev S16x8x400 : Shape := ⟨3, ![16, 8, 400]⟩
abbrev S128x400 : Shape := ⟨2, ![128, 400]⟩
abbrev S128x20x20 : Shape := ⟨3, ![128, 20, 20]⟩
abbrev S2560x20 : Shape := ⟨2, ![2560, 20]⟩
abbrev S128x1 : Shape := ⟨2, ![128, 1]⟩
abbrev S400 : Shape := ⟨1, ![400]⟩
abbrev S1x20 : Shape := ⟨2, ![1, 20]⟩
abbrev S128 : Shape := ⟨1, ![128]⟩
abbrev S1x128 : Shape := ⟨2, ![1, 128]⟩
abbrev S64 : Shape := ⟨1, ![64]⟩
abbrev S1x20x128 : Shape := ⟨3, ![1, 20, 128]⟩
abbrev S1 : Shape := ⟨1, ![1]⟩
abbrev S1x1x1 : Shape := ⟨3, ![1, 1, 1]⟩
abbrev S1x64x1 : Shape := ⟨3, ![1, 64, 1]⟩
abbrev S1x3200x128 : Shape := ⟨3, ![1, 3200, 128]⟩

abbrev nBuf : Space → Nat
  | .hbm => 6
  | .vmem => 8
  | .smem => 0
  | _ => 0

abbrev bufTy : (tb : Table) → Fin (tcTables nBuf tb) → BufTy
  | .hbm, ⟨0, _⟩ => ⟨S64x128, .i32⟩
  | .hbm, ⟨1, _⟩ => ⟨S2560x1, .f32⟩
  | .hbm, ⟨2, _⟩ => ⟨S6553600x1, .f32⟩
  | .hbm, ⟨3, _⟩ => ⟨S20x128, .f32⟩
  | .hbm, ⟨4, _⟩ => ⟨S51200x128, .f32⟩
  | .hbm, ⟨5, _⟩ => ⟨S1x1, .f32⟩
  | .local _ .vmem, ⟨0, _⟩ => ⟨S64x128, .i32⟩
  | .local _ .vmem, ⟨1, _⟩ => ⟨S20x128, .f32⟩
  | .local _ .vmem, ⟨2, _⟩ => ⟨S3200x128, .f32⟩
  | .local _ .vmem, ⟨3, _⟩ => ⟨S3200x128, .f32⟩
  | .local _ .vmem, ⟨4, _⟩ => ⟨S1x1, .f32⟩
  | .local _ .vmem, ⟨5, _⟩ => ⟨S128x2560, .f32⟩
  | .local _ .vmem, ⟨6, _⟩ => ⟨S3200x128, .f32⟩
  | .local _ .vmem, ⟨7, _⟩ => ⟨S64x1, .f32⟩
  | _, _ => ⟨S64x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v1069 : BitVec 1 := Scalar.cmpi .eq arg0 c15_i32
  let v1070 : BitVec 32 := Scalar.extui v1069
  let c0_i32_284 : BitVec 32 := 0#32
  let v1071 : BitVec 1 := Scalar.cmpi .ne v1070 c0_i32_284
  v1071

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S20x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S64x128 : Shape := ⟨2, ![64, 128]⟩
abbrev S2560x1 : Shape := ⟨2, ![2560, 1]⟩
abbrev S6553600x1 : Shape := ⟨2, ![6553600, 1]⟩
abbrev S128 : Shape := ⟨1, ![128]⟩
abbrev S2560 : Shape := ⟨1, ![2560]⟩
abbrev S6553600 : Shape := ⟨1, ![6553600]⟩
abbrev S1x128 : Shape := ⟨2, ![1, 128]⟩
abbrev S_ : Shape := ⟨0, ![]⟩
abbrev S64x128x1 : Shape := ⟨3, ![64, 128, 1]⟩
abbrev S128x20 : Shape := ⟨2, ![128, 20]⟩
abbrev S1x128x20 : Shape := ⟨3, ![1, 128, 20]⟩
abbrev S64x128x20 : Shape := ⟨3, ![64, 128, 20]⟩
abbrev S128x1 : Shape := ⟨2, ![128, 1]⟩
abbrev S128x128 : Shape := ⟨2, ![128, 128]⟩
abbrev S1x128x128 : Shape := ⟨3, ![1, 128, 128]⟩
abbrev S64x128x128 : Shape := ⟨3, ![64, 128, 128]⟩
abbrev S64x1x128 : Shape := ⟨3, ![64, 1, 128]⟩
abbrev S64x128x128x1 : Shape := ⟨4, ![64, 128, 128, 1]⟩
abbrev S20 : Shape := ⟨1, ![20]⟩
abbrev S1x128x1x1 : Shape := ⟨4, ![1, 128, 1, 1]⟩
abbrev S1x1x128x1 : Shape := ⟨4, ![1, 1, 128, 1]⟩
abbrev S1x1x1x20 : Shape := ⟨4, ![1, 1, 1, 20]⟩
abbrev S1x128x128x1 : Shape := ⟨4, ![1, 128, 128, 1]⟩
abbrev S64x1x128x1 : Shape := ⟨4, ![64, 1, 128, 1]⟩
abbrev S64x128x128x20 : Shape := ⟨4, ![64, 128, 128, 20]⟩
abbrev S1x128x128x20 : Shape := ⟨4, ![1, 128, 128, 20]⟩
abbrev S64x128x128x20x1 : Shape := ⟨5, ![64, 128, 128, 20, 1]⟩
abbrev S64 : Shape := ⟨1, ![64]⟩
abbrev S1x1 : Shape := ⟨2, ![1, 1]⟩

abbrev nBuf : Space → Nat
  | .hbm => 137
  | .vmem => 0
  | .smem => 0
  | _ => 0

abbrev hbmTy0_0 (i : Nat) : BufTy := match i % 128 with
  | 0 => ⟨S64x128, .i32⟩
  | 1 => ⟨S2560x1, .f32⟩
  | 2 => ⟨S6553600x1, .f32⟩
  | 3 => ⟨S128, .i32⟩
  | 4 => ⟨S2560, .f32⟩
  | 5 => ⟨S6553600, .f32⟩
  | 6 => ⟨S1x128, .i32⟩
  | 7 => ⟨S_, .i32⟩
  | 8 => ⟨S1x128, .i32⟩
  | 9 => ⟨S1x128, .i32⟩
  | 10 => ⟨S64x128, .i32⟩
  | 11 => ⟨S64x128, .i32⟩
  | 12 => ⟨S_, .i32⟩
  | 13 => ⟨S64x128, .i32⟩
  | 14 => ⟨S64x128, .i1⟩
  | 15 => ⟨S_, .i32⟩
  | 16 => ⟨S64x128, .i32⟩
  | 17 => ⟨S64x128, .i32⟩
  | 18 => ⟨S64x128, .i32⟩
  | 19 => ⟨S64x128x1, .i32⟩
  | 20 => ⟨S64x128, .f32⟩
  | 21 => ⟨S128x20, .f32⟩
  | 22 => ⟨S1x128x20, .f32⟩
  | 23 => ⟨S64x128x20, .f32⟩
  | 24 => ⟨S128x1, .i32⟩
  | 25 => ⟨S_, .i32⟩
  | 26 => ⟨S128x1, .i32⟩
  | 27 => ⟨S128x1, .i32⟩
  | 28 => ⟨S1x128, .i32⟩
  | 29 => ⟨S128x128, .i32⟩
  | 30 => ⟨S128x128, .i32⟩
  | 31 => ⟨S128x128, .i32⟩
  | 32 => ⟨S_, .i32⟩
  | 33 => ⟨S128x128, .i32⟩
  | 34 => ⟨S128x128, .i32⟩
  | 35 => ⟨S1x128x128, .i32⟩
  | 36 => ⟨S64x128x1, .i32⟩
  | 37 => ⟨S_, .i32⟩
  | 38 => ⟨S64x128x1, .i32⟩
  | 39 => ⟨S64x128x1, .i32⟩
  | 40 => ⟨S64x128x128, .i32⟩
  | 41 => ⟨S64x128x128, .i32⟩
  | 42 => ⟨S64x128x128, .i32⟩
  | 43 => ⟨S64x1x128, .i32⟩
  | 44 => ⟨S64x128x128, .i32⟩
  | 45 => ⟨S64x128x128, .i32⟩
  | 46 => ⟨S_, .i32⟩
  | 47 => ⟨S64x128x128, .i32⟩
  | 48 => ⟨S64x128x128, .i1⟩
  | 49 => ⟨S_, .i32⟩
  | 50 => ⟨S64x128x128, .i32⟩
  | 51 => ⟨S64x128x128, .i32⟩
  | 52 => ⟨S64x128x128, .i32⟩
  | 53 => ⟨S64x128x128x1, .i32⟩
  | 54 => ⟨S64x128x128, .f32⟩
  | 55 => ⟨S20, .i32⟩
  | 56 => ⟨S1x128x1x1, .i32⟩
  | 57 => ⟨S1x1x128x1, .i32⟩
  | 58 => ⟨S1x1x1x20, .i32⟩
  | 59 => ⟨S1x128x128x1, .i32⟩
  | 60 => ⟨S1x128x128x1, .i32⟩
  | 61 => ⟨S1x128x128x1, .i1⟩
  | 62 => ⟨S1x128x128x1, .i32⟩
  | 63 => ⟨S1x128x128x1, .i32⟩
  | 64 => ⟨S1x128x128x1, .i1⟩
  | 65 => ⟨S64x1x128x1, .i32⟩
  | 66 => ⟨S_, .i32⟩
  | 67 => ⟨S_, .i32⟩
  | 68 => ⟨S64x128x128x1, .i1⟩
  | 69 => ⟨S64x128x128x1, .i32⟩
  | 70 => ⟨S64x128x128x1, .i32⟩
  | 71 => ⟨S64x128x128x1, .i32⟩
  | 72 => ⟨S64x128x128x20, .i1⟩
  | 73 => ⟨S64x128x128x20, .i32⟩
  | 74 => ⟨S64x128x128x20, .i32⟩
  | 75 => ⟨S64x128x128x20, .i32⟩
  | 76 => ⟨S1x128x128x1, .i32⟩
  | 77 => ⟨S_, .i32⟩
  | 78 => ⟨S1x1x1x20, .i32⟩
  | 79 => ⟨S1x1x1x20, .i32⟩
  | 80 => ⟨S1x128x128x20, .i32⟩
  | 81 => ⟨S1x128x128x20, .i32⟩
  | 82 => ⟨S1x128x128x20, .i32⟩
  | 83 => ⟨S64x128x128x20, .i32⟩
  | 84 => ⟨S64x128x128x20, .i32⟩
  | 85 => ⟨S_, .i32⟩
  | 86 => ⟨S64x128x128x20, .i32⟩
  | 87 => ⟨S64x128x128x20, .i1⟩
  | 88 => ⟨S_, .i32⟩
  | 89 => ⟨S64x128x128x20, .i32⟩
  | 90 => ⟨S64x128x128x20, .i32⟩
  | 91 => ⟨S64x128x128x20, .i32⟩
  | 92 => ⟨S64x128x128x20x1, .i32⟩
  | 93 => ⟨S64x128x128x20, .f32⟩
  | 94 => ⟨S_, .f32⟩
  | 95 => ⟨S64x128x20, .f32⟩
  | 96 => ⟨S_, .f32⟩
  | 97 => ⟨S64x128, .f32⟩
  | 98 => ⟨S64x128, .f32⟩
  | 99 => ⟨S64x128x20, .f32⟩
  | 100 => ⟨S64x128x20, .f32⟩
  | 101 => ⟨S_, .f32⟩
  | 102 => ⟨S64x128, .f32⟩
  | 103 => ⟨S64x128, .f32⟩
  | 104 => ⟨S64x128, .f32⟩
  | 105 => ⟨S64x128, .f32⟩
  | 106 => ⟨S_, .f32⟩
  | 107 => ⟨S64, .f32⟩
  | 108 => ⟨S_, .f32⟩
  | 109 => ⟨S_, .f32⟩
  | 110 => ⟨S_, .f32⟩
  | 111 => ⟨S_, .f32⟩
  | 112 => ⟨S2560x1, .f32⟩
  | 113 => ⟨S_, .f32⟩
  | 114 => ⟨S_, .f32⟩
  | 115 => ⟨S_, .f32⟩
  | 116 => ⟨S_, .f32⟩
  | 117 => ⟨S_, .f32⟩
  | 118 => ⟨S6553600x1, .f32⟩
  | 119 => ⟨S_, .f32⟩
  | 120 => ⟨S_, .f32⟩
  | 121 => ⟨S_, .f32⟩
  | 122 => ⟨S_, .f32⟩
  | 123 => ⟨S_, .f32⟩
  | 124 => ⟨S2560x1, .f32⟩
  | 125 => ⟨S_, .f32⟩
  | 126 => ⟨S_, .f32⟩
  | 127 => ⟨S_, .f32⟩
  | _ => ⟨S64x128, .i32⟩

abbrev hbmTy0_1 (i : Nat) : BufTy := match i % 128 with
  | 0 => ⟨S_, .f32⟩
  | 1 => ⟨S_, .f32⟩
  | 2 => ⟨S6553600x1, .f32⟩
  | 3 => ⟨S_, .f32⟩
  | 4 => ⟨S_, .f32⟩
  | 5 => ⟨S_, .f32⟩
  | 6 => ⟨S_, .f32⟩
  | 7 => ⟨S_, .f32⟩
  | 8 => ⟨S1x1, .f32⟩
  | _ => ⟨S64x128, .i32⟩

abbrev hbmTy (i : Nat) : BufTy := match i / 128 with
  | 0 => hbmTy0_0 i
  | 1 => hbmTy0_1 i
  | _ => ⟨S64x128, .i32⟩

abbrev bufTy : (tb : Table) → Fin (tcTables nBuf tb) → BufTy
  | .hbm, ⟨i, _⟩ => hbmTy i
  | _, _ => ⟨S64x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_c_5 : Ref sig .tc := ⟨.hbm, 46, rfl⟩
abbrev main_v37 : Ref sig .tc := ⟨.hbm, 47, rfl⟩
abbrev main_v38 : Ref sig .tc := ⟨.hbm, 48, rfl⟩
abbrev main_c_6 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_c_7 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_v55 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v56 : Ref sig .tc := ⟨.hbm, 75, rfl⟩
abbrev main_v57 : Ref sig .tc := ⟨.hbm, 76, rfl⟩
abbrev main_c_8 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_c_9 : Ref sig .tc := ⟨.hbm, 85, rfl⟩
abbrev main_v65 : Ref sig .tc := ⟨.hbm, 86, rfl⟩
abbrev main_v66 : Ref sig .tc := ⟨.hbm, 87, rfl⟩
abbrev main_c_10 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst : Ref sig .tc := ⟨.hbm, 94, rfl⟩
abbrev main_v72 : Ref sig .tc := ⟨.hbm, 95, rfl⟩
abbrev main_cst_11 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_12 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_13 : Ref sig .tc := ⟨.hbm, 106, rfl⟩
abbrev main_v81 : Ref sig .tc := ⟨.hbm, 107, rfl⟩
abbrev main_cst_14 : Ref sig .tc := ⟨.hbm, 108, rfl⟩
abbrev main_v82 : Ref sig .tc := ⟨.hbm, 109, rfl⟩
abbrev main_cst_15 : Ref sig .tc := ⟨.hbm, 110, rfl⟩
abbrev main_v83 : Ref sig .tc := ⟨.hbm, 111, rfl⟩
abbrev main_v84 : Ref sig .tc := ⟨.hbm, 112, rfl⟩
abbrev main_cst_16 : Ref sig .tc := ⟨.hbm, 113, rfl⟩
abbrev main_v85 : Ref sig .tc := ⟨.hbm, 114, rfl⟩
abbrev main_cst_17 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_18 : Ref sig .tc := ⟨.hbm, 119, rfl⟩
abbrev main_v89 : Ref sig .tc := ⟨.hbm, 120, rfl⟩
abbrev main_cst_19 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_20 : Ref sig .tc := ⟨.hbm, 125, rfl⟩
abbrev main_v93 : Ref sig .tc := ⟨.hbm, 126, rfl⟩
abbrev main_cst_21 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_22 : Ref sig .tc := ⟨.hbm, 131, rfl⟩
abbrev main_v97 : Ref sig .tc := ⟨.hbm, 132, rfl⟩
abbrev main_cst_23 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩

abbrev nD : Nat := 1
abbrev τ : Topo := Topo.v7x

variable {F : FTy → Type} [FloatOps F]
-- ==== Proof.Slot.lean ====
module

public import proofs.«01_k».proof.Proof.Gen.KernelIdeal.Value

/-!
# One position's contribution, as the kernel computes it

The kernel's body handles eight positions of the sequence one after the other, with the same operations for each.  They
are named here once, for a position given as a word `i` and for that position's block `P` of the pair weights; the
operations are the body's own.
-/

@[expose] public section

set_option maxRecDepth 16384

noncomputable section

namespace Cert.Mrf

open Idealize.ShloMosaic Idealize.ShloMosaic.TcCoe Idealize.SL.Sem
open Cert.KernelIdeal Cert.KernelIdeal.Gen

variable {F : FTy → Type} [FloatOps F]

/-- Which position each column of the one-hot buffer belongs to. -/
def colPos : IVec S1x2560 32 := k0_pay28 (iota Kind.tc S1x2560 32 [1] iota_S1x2560_d1_w32) 20#32 k0_pay26 k0_pay27 1#32 0#1

/-- One where a column of the one-hot buffer stands for the last token, zero elsewhere. -/
def lastTok : FVec F S1x2560 .f32 := k0_pay29 (iota Kind.tc S1x2560 32 [1] iota_S1x2560_d1_w32) 20#32 k0_pay26 k0_pay27 1#32 0#1

/-- The one-hot coding of the tokens. -/
def oneHot (x : Vec F S64x128 .i32) : FVec F S64x2560 .f32 := k0_pay8 (k0_pay2 x) 20#32 k0_pay3 k0_pay4 k0_pay5 k0_pay6

/-- The one-hot coding with the columns before position `i` replaced by the last token's and those at `i` cleared. -/
def masked (O : Vec F S64x2560 .f32) (i : BitVec 32) : FVec F S64x2560 .f32 := k0_pay40 colPos lastTok O i

/-- The pair weights of eight positions as 128 rows of 8 times 400. -/
def planes (w : Vec F S3200x128 .f32) : FVec F S128x8x400 .f32 :=
  k0_pay25 (k0_pay12 w) (k0_pay13 w) (k0_pay14 w) (k0_pay15 w) (k0_pay16 w) (k0_pay17 w) (k0_pay18 w) (k0_pay19 w)
    (k0_pay20 w) (k0_pay21 w) (k0_pay22 w) (k0_pay23 w) (k0_pay24 w)

/-- The pair weight of a position with itself, both tokens equal. -/
def selfPair (i : BitVec 32) (P : FVec F S128x400 .f32) : FVec F S1x20 .f32 :=
  k0_pay44 (k0_pay34 k0_pay32 k0_pay33) (k0_pay35 (iota Kind.tc S1x400 32 [1] iota_S1x400_d1_w32) k0_pay32 k0_pay33) k0_pay36 i P

/-- The offsets of the single weights' entries from the first of position `i`. -/
def offs (i : BitVec 32) : IVec S20x128 32 :=
  k0_pay45 (iota Kind.tc S20x128 32 [0] iota_S20x128_d0_w32) (iota Kind.tc S20x128 32 [1] iota_S20x128_d1_w32) i

/-- Whether these offsets are at least zero. -/
def offsPos (i : BitVec 32) : IVec S20x128 1 :=
  k0_pay46 (iota Kind.tc S20x128 32 [0] iota_S20x128_d0_w32) (iota Kind.tc S20x128 32 [1] iota_S20x128_d1_w32) i

/-- The single weights of position `i`. -/
def singles (sw : Vec F S20x128 .f32) (i : BitVec 32) : FVec F S1x20 .f32 :=
  k0_pay48 (iota Kind.tc S128x20 32 [0] iota_S128x20_d0_w32) (iota Kind.tc S128x20 32 [1] iota_S128x20_d1_w32) (k0_pay37 sw) i
    (offs i) (offsPos i) k0_pay47

/-- The logarithm of the sum over tokens, from the lower half of the product. -/
def logSum (sw : Vec F S20x128 .f32) (i : BitVec 32) (P : FVec F S128x400 .f32) (R : FVec F S64x20 .f32) : FVec F S64x1 .f32 :=
  k0_pay49 (iota Kind.tc S128x20 32 [0] iota_S128x20_d0_w32) (iota Kind.tc S128x20 32 [1] iota_S128x20_d1_w32) (k0_pay37 sw) i
    R (selfPair i P) (offs i) (offsPos i) k0_pay47

/-- The running sum after position `i`, from the running sum `acc` before it. -/
def slot (x : Vec F S64x128 .i32) (sw : Vec F S20x128 .f32) (B : Vec F S128x2560 .f32) (i : BitVec 32) (P : FVec F S128x400 .f32)
    (acc : FVec F S64x1 .f32) : FVec F S64x1 .f32 :=
  k0_pay52 (k0_pay30 x) k0_pay31 acc (k0_pay42 P B) (singles sw i) (logSum sw i P (k0_pay43 P B)) (k0_pay50 i) k0_pay51

end Cert.Mrf

end
-- ==== Proof.Planes.lean ====
module

public import proofs.«01_k».proof.Proof.Slot
public import Idealize.ShloMosaic.Lib.Pointwise

/-!
# The pair weights in the order of the positions

A grid point's block of pair weights holds 3200 rows of 128.  The kernel lays it out as 128 rows of 3200 by cutting out
every 25th row and putting the 25 cuts side by side, which keeps the entries in their order, and reads eight positions'
planes of 128 by 400 off it.
-/

@[expose] public section

set_option maxRecDepth 16384

noncomputable section

namespace Cert.Mrf

open Idealize.ShloMosaic Idealize.ShloMosaic.TcCoe Idealize.SL.Sem
open Cert.KernelIdeal Cert.KernelIdeal.Gen

variable {F : FTy → Type} [FloatOps F]

/-- Cutting every 25th row, from row `n` on, stays inside the block. -/
theorem slices_cut : ∀ n : Fin 25, S8x16x25x128.Slices ![0, 0, n.val, 0] S8x16x1x128 := by decide

/-- Every 25th row of a block, from row `n` on. -/
def cut (w : Vec F S3200x128 .f32) (n : Fin 25) : FVec F S128x128 .f32 :=
  shapeCast S128x128 (shapeCast S8x16x128 (extractStridedSlice S8x16x1x128 ![0, 0, n.val, 0] (k0_pay12 w) (slices_cut n))
    shapeCasts_S8x16x1x128_S8x16x128) shapeCasts_S8x16x128_S128x128

/-- Row `p` of the cut from row `n` is row `25 p + n` of the block. -/
theorem cut_apply (w : Vec F S3200x128 .f32) (n : Fin 25) (p q : Fin 128) :
    cut w n (ix2 p q) = w (ix2 ⟨p.val * 25 + n.val, by omega⟩ q) := by
  pointwise [cut, k0_pay12, k0_pay7]
  congr 2
  ext
  dsimp only
  omega

/-- The cuts put side by side. -/
theorem planes_eq (w : Vec F S3200x128 .f32) :
    planes w = shapeCast S128x8x400 (concatenate S128x3200 1
      (List.ofFn fun n : Fin 25 => (⟨S128x128, cut w n⟩ : (s : Shape) × (s.Idx → F .f32)))
      concatenates_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x3200_d1)
      shapeCasts_S128x3200_S128x8x400 := rfl

/-- The block at place `n`, counted along its rows. -/
def flatW (w : Vec F S3200x128 .f32) (n : Nat) (h : n < 409600) : F .f32 :=
  w (ix2 ⟨n / 128, by omega⟩ ⟨n % 128, by omega⟩)

/-- The planes keep the entries of the block in their order. -/
theorem planes_apply (w : Vec F S3200x128 .f32) (p : Fin 128) (q : Fin 8) (r : Fin 400) :
    planes w (ix3 p q r) = flatW w (p.val * 3200 + q.val * 400 + r.val) (by omega) := by
  have hC := fun c => concatenate_ofFn_apply (t := S128x3200) (s₁ := S128x128) 1 (cut w) concatenates_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x3200_d1
    rfl 128 rfl (ix2 p c) ⟨c.val / 128, by omega⟩ rfl (ix2 p ⟨c.val % 128, Nat.mod_lt _ (by decide)⟩) rfl
    (by intro b hb; fin_cases b; · rfl
        · exact absurd rfl hb)
  have hS : ∀ C : FVec F S128x3200 .f32, shapeCast S128x8x400 C shapeCasts_S128x3200_S128x8x400 (ix3 p q r)
      = C (ix2 p ⟨q.val * 400 + r.val, by omega⟩) := by
    intro C
    pointwise
  rw [planes_eq, hS, hC, cut_apply]
  unfold flatW
  congr 2 <;> ext <;> dsimp only <;> omega

end Cert.Mrf

end
-- ==== Proof.Words.lean ====
module

public import proofs.«01_k».proof.KernelIdeal
public import Idealize.ShloMosaic.Lib.Pointwise

/-!
# The words the programs compute with

Indices are computed with 32-bit words.  All of them are small, so that each operation agrees with the operation on
natural numbers.
-/

@[expose] public section

set_option maxRecDepth 65536

noncomputable section

namespace Cert.Mrf

open Idealize.ShloMosaic

/-- Division of a word by 20, rounded down, as the programs spell it. -/
def fdiv (w : BitVec 32) : BitVec 32 :=
  Scalar.select
    (IntOp.andi
      (IntOp.cmpi .ne (IntOp.subi (BitVec.setWidth 32 (IntOp.cmpi .sgt w 0#32)) (BitVec.setWidth 32 (IntOp.cmpi .slt w 0#32))) 1#32)
      (IntOp.cmpi .ne (IntOp.remsi .vector w 20#32) 0#32))
    (IntOp.subi (IntOp.divsi .vector w 20#32) 1#32) (IntOp.divsi .vector w 20#32)

/-- The nonnegative remainder of a word, as the programs spell it. -/
def frem (n w : BitVec 32) : BitVec 32 :=
  Scalar.select
    (IntOp.andi (IntOp.xori (IntOp.cmpi .slt (IntOp.remsi .vector w n) 0#32) (IntOp.cmpi .slt n 0#32))
      (IntOp.cmpi .ne (IntOp.remsi .vector w n) 0#32))
    (IntOp.addi (IntOp.remsi .vector w n) n) (IntOp.remsi .vector w n)

/-- The quotient by 20 of a small word. -/
theorem fdiv_ofNat : ∀ c : Fin 2560, fdiv (BitVec.ofNat 32 c.val) = BitVec.ofNat 32 (c.val / 20) := by decide +kernel

/-- The remainder by 20 of a small word. -/
theorem frem20_ofNat : ∀ c : Fin 2560, frem 20#32 (BitVec.ofNat 32 c.val) = BitVec.ofNat 32 (c.val % 20) := by decide +kernel

/-- The remainder by 128 of a small word. -/
theorem frem128_ofNat : ∀ c : Fin 2560, frem 128#32 (BitVec.ofNat 32 c.val) = BitVec.ofNat 32 (c.val % 128) := by decide +kernel

/-- The number a small word stands for. -/
theorem toInt_ofNat (n : ℕ) (h : n < 2147483648) : (BitVec.ofNat 32 n).toInt = n := by
  rw [BitVec.toInt_eq_toNat_of_lt] <;> rw [BitVec.toNat_ofNat, Nat.mod_eq_of_lt (by omega)]
  omega

/-- Small words are equal when their numbers are. -/
theorem ofNat_inj (a b : ℕ) (ha : a < 2147483648) (hb : b < 2147483648) : BitVec.ofNat 32 a = BitVec.ofNat 32 b ↔ a = b := by
  refine ⟨fun h => ?_, fun h => by rw [h]⟩
  have := congrArg BitVec.toInt h
  rw [toInt_ofNat a ha, toInt_ofNat b hb] at this
  exact_mod_cast this

/-- A one-bit word chosen on. -/
theorem select_ofBool {α : Type} (p : Bool) (a b : α) : Scalar.select (BitVec.ofBool p) a b = if p then a else b := by
  cases p <;> rfl

/-- Selection on equality of small words. -/
theorem select_eq {α : Type} (m n : ℕ) (hm : m < 2147483648) (hn : n < 2147483648) (a b : α) :
    Scalar.select (IntOp.cmpi .eq (BitVec.ofNat 32 m) (BitVec.ofNat 32 n)) a b = if m = n then a else b := by
  unfold IntOp.cmpi
  rw [select_ofBool]
  simp only [beq_iff_eq, ofNat_inj m n hm hn]

/-- Selection on one small word being below another. -/
theorem select_slt {α : Type} (m n : ℕ) (hm : m < 2147483648) (hn : n < 2147483648) (a b : α) :
    Scalar.select (IntOp.cmpi .slt (BitVec.ofNat 32 m) (BitVec.ofNat 32 n)) a b = if m < n then a else b := by
  unfold IntOp.cmpi
  rw [select_ofBool]
  simp only [BitVec.slt, decide_eq_true_eq, toInt_ofNat m hm, toInt_ofNat n hn, Nat.cast_lt]

/-- Selection on one small word being above another. -/
theorem select_sgt {α : Type} (m n : ℕ) (hm : m < 2147483648) (hn : n < 2147483648) (a b : α) :
    Scalar.select (IntOp.cmpi .sgt (BitVec.ofNat 32 m) (BitVec.ofNat 32 n)) a b = if n < m then a else b :=
  select_slt n m hn hm a b

/-- A one-bit word read as a number. -/
theorem sitofp_ofBool (p : Bool) : (FloatOps.sitofp (F := Ideal) .f32 (BitVec.setWidth 32 (BitVec.ofBool p)) : Ideal .f32) = if p then (1 : EReal) else 0 := by
  show (((BitVec.setWidth 32 (BitVec.ofBool p)).toInt : ℝ) : EReal) = _
  cases p
  · simp
  · have : (BitVec.setWidth 32 (BitVec.ofBool true)).toInt = 1 := by decide
    rw [this]; simp

/-- Whether two words agree, as a number. -/
theorem sitofp_eq (a b : BitVec 32) :
    (FloatOps.sitofp (F := Ideal) .f32 (BitVec.setWidth 32 (IntOp.cmpi .eq a b)) : Ideal .f32) = if a = b then (1 : EReal) else 0 := by
  unfold IntOp.cmpi
  rw [sitofp_ofBool]
  simp only [beq_iff_eq]

/-- A small word read as a number. -/
theorem sitofp_ofNat (n : ℕ) (h : n < 2147483648) : (FloatOps.sitofp (F := Ideal) .f32 (BitVec.ofNat 32 n) : Ideal .f32) = ((n : ℝ) : EReal) := by
  show (((BitVec.ofNat 32 n).toInt : ℝ) : EReal) = _
  rw [toInt_ofNat n h]; simp

end Cert.Mrf

end
-- ==== Proof.Parts.lean ====
module

public import proofs.«01_k».proof.Proof.Slot
public import proofs.«01_k».proof.Proof.Words
public import Idealize.ShloMosaic.Lib.Pointwise

/-!
# The parts of one position's contribution, entry by entry

The weight of a position with itself, the position's single weights, and the two products with the codings.
-/

@[expose] public section

set_option maxRecDepth 16384

noncomputable section

namespace Cert.Mrf

open Idealize.ShloMosaic Idealize.ShloMosaic.TcCoe Idealize.SL.Sem
open Cert.KernelIdeal Cert.KernelIdeal.Gen

/-- A sum picking out the row of a small word. -/
theorem sum_select {n : ℕ} (hn : n < 128) (f : Fin 128 → EReal) :
    ∑ l : Fin 128, Scalar.select (IntOp.cmpi .eq (BitVec.ofNat 32 l.val) (BitVec.ofNat 32 n)) (f l) (0 : EReal) = f ⟨n, hn⟩ := by
  rw [Finset.sum_eq_single ⟨n, hn⟩]
  · rw [select_eq _ _ (by simp only []; omega) (by omega), if_pos rfl]
  · intro l _ hl
    rw [select_eq _ _ (by omega) (by omega), if_neg fun e => hl (Fin.ext e)]
  · exact fun h => absurd (Finset.mem_univ _) h

/-- The remainder by 20 of a small word, as the word less 20 times its quotient. -/
theorem sub_fdiv : ∀ c : Fin 2560, Scalar.subi (BitVec.ofNat 32 c.val) (Scalar.muli (fdiv (BitVec.ofNat 32 c.val)) 20#32)
    = BitVec.ofNat 32 (c.val % 20) := by decide +kernel

/-- The pair weight of position `n` with itself, both tokens `j`. -/
theorem selfPair_apply (n : ℕ) (hn : n < 128) (P : FVec Ideal S128x400 .f32) (z : Fin 1) (j : Fin 20) :
    selfPair (BitVec.ofNat 32 n) P (ix2 z j) = P (ix2 ⟨n, hn⟩ ⟨j.val * 20 + j.val, by omega⟩) := by
  have h : selfPair (BitVec.ofNat 32 n) P (ix2 z j) =
      ∑ x : Fin 400, Scalar.select (IntOp.cmpi .eq (fdiv (BitVec.ofNat 32 x.val))
          (Scalar.subi (BitVec.ofNat 32 x.val) (Scalar.muli (fdiv (BitVec.ofNat 32 x.val)) 20#32)))
        ((∑ l : Fin 128, Scalar.select (IntOp.cmpi .eq (BitVec.ofNat 32 l.val) (BitVec.ofNat 32 n)) (P (ix2 l x)) (0 : EReal))
          * FloatOps.sitofp (F := Ideal) .f32 (BitVec.setWidth 32 (IntOp.cmpi .eq (fdiv (BitVec.ofNat 32 x.val)) (BitVec.ofNat 32 j.val))))
        (0 : EReal) := by
    pointwise [selfPair, k0_pay44, k0_pay34, k0_pay32, k0_pay33, k0_pay35, k0_pay36]
    rfl
  rw [h, Finset.sum_eq_single ⟨j.val * 20 + j.val, by omega⟩]
  · have e1 := fdiv_ofNat ⟨j.val * 20 + j.val, by omega⟩
    have e2 := sub_fdiv ⟨j.val * 20 + j.val, by omega⟩
    simp only [] at e1 e2 ⊢
    rw [e2, e1, sum_select hn, select_eq _ _ (by omega) (by omega), if_pos (by omega), sitofp_eq, if_pos, mul_one]
    rw [ofNat_inj _ _ (by omega) (by omega)]; omega
  · intro x _ hx
    have e1 := fdiv_ofNat ⟨x.val, by omega⟩
    have e2 := sub_fdiv ⟨x.val, by omega⟩
    simp only [] at e1 e2 ⊢
    rw [e2, e1, select_eq _ _ (by omega) (by omega), sitofp_eq]
    by_cases h1 : x.val / 20 = x.val % 20
    · rw [if_pos h1, if_neg, mul_zero]
      rw [ofNat_inj _ _ (by omega) (by omega)]
      exact fun h2 => hx (Fin.ext (by simp only []; omega))
    · rw [if_neg h1]
  · exact fun h => absurd (Finset.mem_univ _) h

/-- A small linear word. -/
theorem lin_word (k a b : ℕ) : Scalar.addi (Scalar.muli (BitVec.ofNat 32 k) (BitVec.ofNat 32 a)) (BitVec.ofNat 32 b)
    = BitVec.ofNat 32 (k * a + b) := by
  show BitVec.ofNat 32 k * BitVec.ofNat 32 a + BitVec.ofNat 32 b = _
  rw [BitVec.ofNat_add, BitVec.ofNat_mul]

/-- Whether a place lies among the 20 of position `n`. -/
theorem select_window {α : Type} (m n : ℕ) (hm : m < 1000000) (hn : n < 1000000) (a b : α) :
    Scalar.select (IntOp.andi (IntOp.cmpi .sge (Scalar.subi (BitVec.ofNat 32 m) (BitVec.ofNat 32 n)) 0#32)
      (IntOp.cmpi .slt (Scalar.subi (BitVec.ofNat 32 m) (BitVec.ofNat 32 n)) 20#32)) a b
      = if n ≤ m ∧ m < n + 20 then a else b := by
  have h : (Scalar.subi (BitVec.ofNat 32 m) (BitVec.ofNat 32 n)).toInt = (m : ℤ) - n := by
    show (BitVec.ofNat 32 m - BitVec.ofNat 32 n).toInt = _
    rw [BitVec.toInt_sub, toInt_ofNat _ (by omega), toInt_ofNat _ (by omega), Int.bmod_eq_of_le] <;> omega
  generalize Scalar.subi (BitVec.ofNat 32 m) (BitVec.ofNat 32 n) = v at h
  have e : IntOp.andi (IntOp.cmpi .sge v 0#32) (IntOp.cmpi .slt v 20#32) = BitVec.ofBool (decide (n ≤ m ∧ m < n + 20)) := by
    have h1 : IntOp.cmpi .sge v 0#32 = BitVec.ofBool (decide (n ≤ m)) := by
      show BitVec.ofBool (BitVec.sle 0#32 v) = _
      congr 1
      simp only [BitVec.sle, h, decide_eq_decide]
      show (0 : ℤ) ≤ _ ↔ _
      omega
    have h2 : IntOp.cmpi .slt v 20#32 = BitVec.ofBool (decide (m < n + 20)) := by
      show BitVec.ofBool (BitVec.slt v 20#32) = _
      congr 1
      simp only [BitVec.slt, h, decide_eq_decide]
      show _ < (20 : ℤ) ↔ _
      omega
    rw [h1, h2]
    by_cases c1 : n ≤ m <;> by_cases c2 : m < n + 20 <;> simp [c1, c2] <;> rfl
  rw [e, select_ofBool]
  simp only [decide_eq_true_eq]

/-- The single weight of position `n` and token `j`. -/
theorem singles_apply (sw : Vec Ideal S20x128 .f32) (n : ℕ) (hn : n < 128) (z : Fin 1) (j : Fin 20) :
    singles sw (BitVec.ofNat 32 n) (ix2 z j)
      = sw (ix2 ⟨(20 * n + j.val) / 128, by omega⟩ ⟨(20 * n + j.val) % 128, Nat.mod_lt _ (by decide)⟩) := by
  have h : singles sw (BitVec.ofNat 32 n) (ix2 z j) =
      ∑ x : Fin 128, (∑ r : Fin 20, Scalar.select
        (IntOp.andi (IntOp.cmpi .sge (Scalar.subi (Scalar.addi (Scalar.muli 128#32 (BitVec.ofNat 32 r.val)) (BitVec.ofNat 32 x.val)) (Scalar.muli 20#32 (BitVec.ofNat 32 n))) 0#32)
          (IntOp.cmpi .slt (Scalar.subi (Scalar.addi (Scalar.muli 128#32 (BitVec.ofNat 32 r.val)) (BitVec.ofNat 32 x.val)) (Scalar.muli 20#32 (BitVec.ofNat 32 n))) 20#32))
          (sw (ix2 r x)) (0 : EReal))
        * FloatOps.sitofp (F := Ideal) .f32 (BitVec.setWidth 32 (IntOp.cmpi .eq (BitVec.ofNat 32 x.val)
          (frem 128#32 (Scalar.addi (Scalar.muli 20#32 (BitVec.ofNat 32 n)) (BitVec.ofNat 32 j.val))))) := by
    pointwise [singles, k0_pay48, k0_pay37, k0_pay45, k0_pay46, k0_pay47, offs, offsPos]
    rfl
  have hm : Scalar.muli 20#32 (BitVec.ofNat 32 n) = BitVec.ofNat 32 (20 * n) := (BitVec.ofNat_mul ..).symm
  have hf := frem128_ofNat ⟨20 * n + j.val, by omega⟩
  simp only [] at hf
  simp only [lin_word, hf, sitofp_eq] at h
  rw [h, Finset.sum_eq_single ⟨(20 * n + j.val) % 128, Nat.mod_lt _ (by decide)⟩]
  · rw [if_pos rfl, mul_one, Finset.sum_eq_single ⟨(20 * n + j.val) / 128, by omega⟩]
    · rw [hm, select_window _ _ (by simp only []; omega) (by omega), if_pos (by simp only []; omega)]
    · intro r _ hr
      rw [hm, select_window _ _ (by simp only []; omega) (by omega), if_neg]
      exact fun h2 => hr (Fin.ext (by simp only [] at h2 ⊢; omega))
    · exact fun h => absurd (Finset.mem_univ _) h
  · intro x _ hx
    rw [if_neg, mul_zero]
    rw [ofNat_inj _ _ (by omega) (by omega)]
    exact fun h2 => hx (Fin.ext h2)
  · exact fun h => absurd (Finset.mem_univ _) h

/-- The product with the tokens' coding, in the upper half. -/
theorem upper_apply (P : FVec Ideal S128x400 .f32) (B : Vec Ideal S128x2560 .f32) (b : Fin 64) (j : Fin 20) :
    k0_pay42 P B (ix2 b j) = ∑ c : Fin 2560, B (ix2 ⟨b.val, by omega⟩ c)
      * P (ix2 ⟨c.val / 20, by omega⟩ ⟨j.val * 20 + c.val % 20, by omega⟩) := by
  pointwise [k0_pay42, k0_pay41]

/-- The product with the masked coding, in the lower half. -/
theorem lower_apply (P : FVec Ideal S128x400 .f32) (B : Vec Ideal S128x2560 .f32) (b : Fin 64) (j : Fin 20) :
    k0_pay43 P B (ix2 b j) = ∑ c : Fin 2560, B (ix2 ⟨64 + b.val, by omega⟩ c)
      * P (ix2 ⟨c.val / 20, by omega⟩ ⟨j.val * 20 + c.val % 20, by omega⟩) := by
  pointwise [k0_pay43, k0_pay41]

end Cert.Mrf

end
-- ==== Proof.Codes.lean ====
module

public import proofs.«01_k».proof.Proof.Slot
public import proofs.«01_k».proof.Proof.Words
public import Idealize.ShloMosaic.Lib.Pointwise

/-!
# The codings, entry by entry

What the one-hot coding of the tokens holds, and what the coding masked for a position holds.
-/

@[expose] public section

set_option maxRecDepth 16384

noncomputable section

namespace Cert.Mrf

open Idealize.ShloMosaic Idealize.ShloMosaic.TcCoe Idealize.SL.Sem
open Cert.KernelIdeal Cert.KernelIdeal.Gen

/-- Column `c` belongs to position `c / 20`. -/
theorem colPos_apply (z : Fin 1) (c : Fin 2560) : colPos (ix2 z c) = BitVec.ofNat 32 (c.val / 20) := by
  pointwise [colPos, k0_pay28, k0_pay26, k0_pay27]
  exact fdiv_ofNat c

/-- Column `c` stands for the last token when its remainder by 20 is 19. -/
theorem lastTok_apply (z : Fin 1) (c : Fin 2560) :
    (lastTok (F := Ideal)) (ix2 z c) = if c.val % 20 = 19 then (1 : EReal) else 0 := by
  have h : (lastTok (F := Ideal)) (ix2 z c) = FloatOps.sitofp .f32 (BitVec.setWidth 32 (IntOp.cmpi .eq
      (Scalar.subi (BitVec.ofNat 32 c.val) (Scalar.muli (fdiv (BitVec.ofNat 32 c.val)) 20#32)) 19#32)) := by
    pointwise [lastTok, k0_pay29, k0_pay28, k0_pay26, k0_pay27]
    rfl
  have e : Scalar.subi (BitVec.ofNat 32 c.val) (Scalar.muli (BitVec.ofNat 32 (c.val / 20)) 20#32) = BitVec.ofNat 32 (c.val % 20) := by
    clear h; revert c; decide +kernel
  rw [h, fdiv_ofNat, e, sitofp_eq]
  simp only [ofNat_inj (c.val % 20) 19 (by omega) (by omega)]

/-- Column `c` of the one-hot coding tells whether the token at position `c / 20` is `c % 20`. -/
theorem oneHot_apply (x : Vec Ideal S64x128 .i32) (b : Fin 64) (c : Fin 2560) : oneHot x (ix2 b c) =
    if (x (ix2 b ⟨c.val / 20, by omega⟩)).toInt = (c.val % 20 : ℕ) then (1 : EReal) else 0 := by
  have h : oneHot x (ix2 b c) = FloatOps.sitofp (F := Ideal) .f32 (BitVec.setWidth 32 (BitVec.ofBool (decide
      ((∑ l : Fin 128, (((x (ix2 b l)).toInt : ℝ) : EReal) * FloatOps.sitofp (F := Ideal) .f32 (BitVec.setWidth 32 (IntOp.cmpi .eq
        (fdiv (BitVec.ofNat 32 c.val)) (BitVec.ofNat 32 l.val))))
        = FloatOps.sitofp (F := Ideal) .f32 (frem 20#32 (BitVec.ofNat 32 c.val)))))) := by
    pointwise [oneHot, k0_pay8, k0_pay2, k0_pay3, k0_pay4, k0_pay5, k0_pay6]
    rfl
  rw [h, fdiv_ofNat, frem20_ofNat, sitofp_ofBool, sitofp_ofNat _ (by omega)]
  simp only [sitofp_eq]
  have hs : (∑ l : Fin 128, (((x (ix2 b l)).toInt : ℝ) : EReal) * (if BitVec.ofNat 32 (c.val / 20) = BitVec.ofNat 32 l.val then (1 : EReal) else 0))
      = (((x (ix2 b ⟨c.val / 20, by omega⟩)).toInt : ℝ) : EReal) := by
    rw [Finset.sum_eq_single ⟨c.val / 20, by omega⟩]
    · rw [if_pos rfl, mul_one]
    · intro l _ hl
      rw [if_neg, mul_zero]
      rw [ofNat_inj _ _ (by omega) (by omega)]
      exact fun e => hl (Fin.ext e.symm)
    · exact fun hn => absurd (Finset.mem_univ _) hn
  rw [hs]
  simp only [decide_eq_true_eq, EReal.coe_eq_coe_iff]
  exact if_congr (by rw [← Int.cast_natCast (R := ℝ), Int.cast_inj]) rfl rfl

/-- The masked coding of position `n`: the tokens' own coding after `n`, the last token's before `n`, zero at `n`. -/
theorem masked_apply (O : Vec Ideal S64x2560 .f32) (n : ℕ) (hn : n < 128) (b : Fin 64) (c : Fin 2560) :
    masked O (BitVec.ofNat 32 n) (ix2 b c) =
      if n < c.val / 20 then O (ix2 b c) else if c.val / 20 < n then (if c.val % 20 = 19 then (1 : EReal) else 0) else 0 := by
  have h : masked O (BitVec.ofNat 32 n) (ix2 b c) =
      Scalar.select (IntOp.cmpi .sgt (colPos (ix2 0 c)) (BitVec.ofNat 32 n)) (O (ix2 b c)) (0 : EReal)
        + Scalar.select (IntOp.cmpi .slt (colPos (ix2 0 c)) (BitVec.ofNat 32 n)) (lastTok (F := Ideal) (ix2 0 c)) (0 : EReal) := by
    pointwise [masked, k0_pay40]
  rw [h, colPos_apply, lastTok_apply, select_sgt _ _ (by omega) (by omega), select_slt _ _ (by omega) (by omega)]
  by_cases h1 : n < c.val / 20
  · rw [if_pos h1, if_pos h1, if_neg (by omega), add_zero]
  · rw [if_neg h1, if_neg h1, zero_add]

end Cert.Mrf

end
-- ==== Proof.Rows.lean ====
module

public import proofs.«01_k».proof.Proof.Gen.KernelIdeal.Value
public import Idealize.ShloMosaic.Lib.WritesUnit
public import Idealize.ShloMosaic.Lib.Pipeline.ValueKit

/-!
# The two halves of the one-hot buffer

The kernel keeps a buffer of 128 rows.  Rows 0 to 63 hold the one-hot coding of the tokens, written once; rows 64 to 127
are overwritten for every position.  Each time the whole buffer is read after such a store it holds the upper half as it
was and the lower half as just stored.
-/

@[expose] public section

set_option maxRecDepth 16384

noncomputable section

namespace Cert.Mrf

open Idealize.ShloMosaic Idealize.ShloMosaic.TcCoe Idealize.SL.Sem
open Cert.KernelIdeal Cert.KernelIdeal.Gen

variable {F : FTy → Type} [FloatOps F]

/-- Rows 0 to 63 of the buffer. -/
abbrev topRect : Rect S128x2560 := Rect.unit (s := S128x2560) ![0, 0] ![64, 2560] inb_S128x2560_S64x2560_0_0

/-- Rows 64 to 127 of the buffer. -/
abbrev botRect : Rect S128x2560 := Rect.unit (s := S128x2560) ![64, 0] ![64, 2560] inb_S128x2560_S64x2560_64_0

/-- The whole buffer as a rectangle. -/
abbrev allRect : Rect S128x2560 := Rect.unit (s := S128x2560) ![0, 0] ![128, 2560] inb_S128x2560_S128x2560_0_0

/-- Column `y 1` of a row of the buffer, as an index of a half, in row `r`. -/
def inHalf (r : Fin 64) (y : S128x2560.Idx) : S64x2560.Idx := ix2 r ⟨(y (1 : Fin 2)).val, (y 1).isLt⟩

/-- The buffer whose upper half is `O` and whose lower half is `V`. -/
def stack (O V : Vec F S64x2560 .f32) : Vec F S128x2560 .f32 := fun y =>
  if h : (y (0 : Fin 2)).val < 64 then O (inHalf ⟨(y (0 : Fin 2)).val, h⟩ y)
  else V (inHalf ⟨(y (0 : Fin 2)).val - 64, by have := (y 0).isLt; change _ < 128 at this; omega⟩ y)

/-- In the upper half, a store over the lower half is not seen. -/
theorem read_bot_lt (v : View sig .tc .vmem S128x2560 .f32) (f : v.ty.Contents (Elt F)) (V : Vec F S64x2560 .f32)
    (L : List (View.Piece (Elt F) S128x2560 .f32)) (y : S128x2560.Idx) (h : (y (0 : Fin 2)).val < 64) :
    v.read (Elt F) (v.writes (Elt F) f (⟨botRect, V⟩ :: L)) y = v.read (Elt F) (v.writes (Elt F) f L) y :=
  View.read_writes_cons_rows_of_not_mem (o := 64) (W := 64) v f _ V L y rfl rfl (Or.inl h)

/-- In the lower half, the last store over it is what is read. -/
theorem read_bot_ge (v : View sig .tc .vmem S128x2560 .f32) (f : v.ty.Contents (Elt F)) (V : Vec F S64x2560 .f32)
    (L : List (View.Piece (Elt F) S128x2560 .f32)) (y : S128x2560.Idx) (h : ¬(y (0 : Fin 2)).val < 64) :
    v.read (Elt F) (v.writes (Elt F) f (⟨botRect, V⟩ :: L)) y
      = V (inHalf ⟨(y (0 : Fin 2)).val - 64, by have := (y 0).isLt; change _ < 128 at this; omega⟩ y) :=
  View.read_writes_cons_rows_of_mem (o := 64) v f _ V L y (inHalf _ y) rfl
    (by show (y (0 : Fin 2)).val = 64 + ((y (0 : Fin 2)).val - 64); omega) rfl

/-- In the upper half, the last store over it is what is read. -/
theorem read_top_lt (v : View sig .tc .vmem S128x2560 .f32) (f : v.ty.Contents (Elt F)) (O : Vec F S64x2560 .f32)
    (L : List (View.Piece (Elt F) S128x2560 .f32)) (y : S128x2560.Idx) (h : (y (0 : Fin 2)).val < 64) :
    v.read (Elt F) (v.writes (Elt F) f (⟨topRect, O⟩ :: L)) y = O (inHalf ⟨(y (0 : Fin 2)).val, h⟩ y) :=
  View.read_writes_cons_rows_of_mem (o := 0) v f _ O L y (inHalf _ y) rfl (Nat.zero_add _).symm rfl

/-- A load of the upper half reads the buffer there. -/
theorem ld_top (X : Vec F S128x2560 .f32) (y : S128x2560.Idx) (h : (y (0 : Fin 2)).val < 64) :
    View.ld X topRect (inHalf ⟨(y (0 : Fin 2)).val, h⟩ y) = X y := by
  unfold View.ld
  refine congrArg X (funext fun a => Fin.ext ?_)
  fin_cases a <;> simp [Rect.emb, Rect.unit, inHalf, ix2]

/-- A store over the lower half hides every earlier store over the lower half. -/
theorem read_bot_bot (v : View sig .tc .vmem S128x2560 .f32) (f : v.ty.Contents (Elt F)) (V W : Vec F S64x2560 .f32)
    (L : List (View.Piece (Elt F) S128x2560 .f32)) :
    v.read (Elt F) (v.writes (Elt F) f (⟨botRect, V⟩ :: ⟨botRect, W⟩ :: L))
      = v.read (Elt F) (v.writes (Elt F) f (⟨botRect, V⟩ :: L)) := by
  funext y
  by_cases h : (y (0 : Fin 2)).val < 64
  · rw [read_bot_lt v f V _ y h, read_bot_lt v f W _ y h, read_bot_lt v f V _ y h]
  · rw [read_bot_ge v f V _ y h, read_bot_ge v f V _ y h]

/-- After a store over the lower half of a buffer that held `X`, the buffer holds the upper half of `X` and what was stored. -/
theorem read_bot (a : Memref sig .tc .vmem S128x2560 .f32) (h : a.IsWhole) (X : Vec F S128x2560 .f32) (V : Vec F S64x2560 .f32) :
    a.view.read (Elt F) (a.view.writes (Elt F) (h.unread X) [⟨botRect, V⟩]) = stack (View.ld X topRect) V := by
  funext y
  unfold stack
  by_cases hlt : (y (0 : Fin 2)).val < 64
  · rw [read_bot_lt _ _ V _ y hlt, dif_pos hlt, ld_top X y hlt, View.writes_nil, h.read_unread]
  · rw [read_bot_ge _ _ V _ y hlt, dif_neg hlt]

/-- After a store over each half, the buffer holds the two halves as stored. -/
theorem read_bot_top (v : View sig .tc .vmem S128x2560 .f32) (f : v.ty.Contents (Elt F)) (O V : Vec F S64x2560 .f32) :
    v.read (Elt F) (v.writes (Elt F) f [⟨botRect, V⟩, ⟨topRect, O⟩]) = stack O V := by
  funext y
  unfold stack
  by_cases hlt : (y (0 : Fin 2)).val < 64
  · rw [read_bot_lt _ _ V _ y hlt, dif_pos hlt, read_top_lt _ _ O _ y hlt]
  · rw [read_bot_ge _ _ V _ y hlt, dif_neg hlt]

/-- A load of the whole buffer after covering stores reads the buffer. -/
theorem readCov_all (v : View sig .tc .vmem S128x2560 .f32) (L : List (View.Piece (Elt F) S128x2560 .f32)) :
    v.readCov L allRect.toLoadRect = v.read (Elt F) (v.writes (Elt F) v.junk L) := by
  unfold View.readCov
  rw [View.readAt_eq_ld]
  exact View.ld_unit_zero (by funext a; fin_cases a <;> rfl) _ _

/-- A load of the upper half straight after it was stored reads what was stored. -/
theorem readCov_top (v : View sig .tc .vmem S128x2560 .f32) (O : Vec F S64x2560 .f32) (L : List (View.Piece (Elt F) S128x2560 .f32)) :
    v.readCov (⟨topRect, O⟩ :: L) topRect.toLoadRect = O :=
  View.readCov_cons_toLoadRect v topRect O L

/-- The upper half of the two halves put together is the upper half. -/
theorem ld_top_stack (O V : Vec F S64x2560 .f32) : View.ld (stack O V) topRect = O := by
  funext y
  have hy : (y (0 : Fin 2)).val < 64 := (y 0).isLt
  have e : ∀ a, ((topRect.idx y) a).val = (y a).val := fun a => by fin_cases a <;> simp [LoadRect.idx, topRect, Rect.unit]
  unfold View.ld stack
  rw [dif_pos (by rw [e]; exact hy)]
  refine congrArg O (funext fun a => Fin.ext ?_)
  fin_cases a
  · exact e 0
  · exact e 1

end Cert.Mrf

end
-- ==== Proof.Steps.lean ====
module

public import proofs.«01_k».proof.Proof.Rows
public import proofs.«01_k».proof.Proof.Slot

/-!
# What one grid point leaves

At every grid point the body adds the eight positions' contributions to one running sum, and the squares and absolute
values of the point's pair weights to another; the one-hot coding is written at the first point and kept.
-/

@[expose] public section

set_option maxRecDepth 65536

noncomputable section

namespace Cert.Mrf

open Idealize.ShloMosaic Idealize.ShloMosaic.TcCoe Idealize.SL.Sem
open Cert.KernelIdeal Cert.KernelIdeal.Gen Cert.KernelIdeal.Value

variable {F : FTy → Type} [FloatOps F]

/-- The word of position number `s` of a grid point whose coordinate is the word `a`. -/
def posWord (a s : BitVec 32) : BitVec 32 := Scalar.addi (Scalar.muli a 8#32) s

/-- One position's contribution added to a running sum, the one-hot coding being `O`. -/
def slotAt (x : Vec F S64x128 .i32) (sw : Vec F S20x128 .f32) (O : Vec F S64x2560 .f32) (a s : BitVec 32) (P : FVec F S128x400 .f32)
    (acc : FVec F S64x1 .f32) : FVec F S64x1 .f32 :=
  slot x sw (stack O (masked O (posWord a s))) (posWord a s) P acc

/-- The eight positions' contributions of a grid point. -/
def eight (x : Vec F S64x128 .i32) (sw : Vec F S20x128 .f32) (w : Vec F S3200x128 .f32) (O : Vec F S64x2560 .f32) (a : BitVec 32) :
    FVec F S64x1 .f32 :=
  slotAt x sw O a 7#32 (k0_pay121 (planes w)) <| slotAt x sw O a 6#32 (k0_pay110 (planes w)) <|
  slotAt x sw O a 5#32 (k0_pay96 (planes w)) <| slotAt x sw O a 4#32 (k0_pay84 (planes w)) <|
  slotAt x sw O a 3#32 (k0_pay73 (planes w)) <| slotAt x sw O a 2#32 (k0_pay63 (planes w)) <|
  slotAt x sw O a 1#32 (k0_pay53 (planes w)) <| slotAt x sw O a 0#32 (k0_pay39 (planes w)) <| k0_pay38

/-- The running sum of the contributions after a grid point. -/
def accum (x : Vec F S64x128 .i32) (sw : Vec F S20x128 .f32) (w : Vec F S3200x128 .f32) (O : Vec F S64x2560 .f32) (a : BitVec 32)
    (acc : Vec F S64x1 .f32) : FVec F S64x1 .f32 :=
  shapeCast S64x1 (addf acc (eight x sw w O a)) shapeCasts_S64x1_S64x1

/-- The coordinate word of a grid point. -/
def ptWord (i : grid0.Coords) : BitVec 32 := BitVec.ofNat 32 (i 0).val

/-! ## The three kinds of grid point, over any buffers -/

section Body

variable (c : Dev nD) (i : grid0.Coords)
  {a1 : Memref sig .tc .vmem S64x128 .i32} (h1 : a1.IsWhole)
  {a2 : Memref sig .tc .vmem S20x128 .f32} (h2 : a2.IsWhole)
  {a3 : Memref sig .tc .vmem S3200x128 .f32} (h3 : a3.IsWhole)
  {a4 : Memref sig .tc .vmem S1x1 .f32} (h4 : a4.IsWhole)
  {a5 : Memref sig .tc .vmem S128x2560 .f32} (h5 : a5.IsWhole)
  {a6 : Memref sig .tc .vmem S3200x128 .f32} (h6 : a6.IsWhole)
  {a7 : Memref sig .tc .vmem S64x1 .f32} (h7 : a7.IsWhole)
  (x : Vec F S64x128 .i32) (sw : Vec F S20x128 .f32) (w : Vec F S3200x128 .f32)
  (B : Vec F S128x2560 .f32) (R : Vec F S3200x128 .f32) (A : Vec F S64x1 .f32)

set_option maxHeartbeats 4000000 in
/-- At the first point the running sum starts from zero, and the one-hot coding is the tokens'. -/
theorem sum_A (k0 : cond0_0 i) (k1 : ¬cond0_1 i) :
    sout0_A_2 c i a1 h1 a2 h2 a3 h3 a4 h4 a5 h5 a6 h6 a7 h7 k0 k1 x sw w
      = accum x sw w (oneHot x) (ptWord i) k0_pay9 := by
  funext j
  unfold sout0_A_2
  frame_out
  simp only [readCov_all, readCov_top, read_bot_bot, read_bot_top]
  rfl

set_option maxHeartbeats 4000000 in
/-- At a middle point the contributions are added to the running sum. -/
theorem sum_B (k0 : ¬cond0_0 i) (k1 : ¬cond0_1 i) :
    sout0_B_2 c i a1 h1 a2 h2 a3 h3 a4 h4 a5 h5 a6 h6 a7 h7 k0 k1 x sw w B R A
      = accum x sw w (View.ld B topRect) (ptWord i) A := by
  funext j
  unfold sout0_B_2
  frame_out
  simp only [read_bot_bot, read_bot]
  rfl

set_option maxHeartbeats 4000000 in
/-- At the last point the contributions are added to the running sum. -/
theorem sum_C (k0 : ¬cond0_0 i) (k1 : cond0_1 i) :
    sout0_C_2 c i a1 h1 a2 h2 a3 h3 a4 h4 a5 h5 a6 h6 a7 h7 k0 k1 x sw w B R A
      = accum x sw w (View.ld B topRect) (ptWord i) A := by
  funext j
  unfold sout0_C_2
  frame_out
  simp only [read_bot_bot, read_bot]
  rfl

set_option maxHeartbeats 4000000 in
/-- At the first point the sums of squares and absolute values start from zero. -/
theorem reg_A (k0 : cond0_0 i) (k1 : ¬cond0_1 i) :
    sout0_A_1 c i a1 h1 a2 h2 a3 h3 a4 h4 a5 h5 a6 h6 a7 h7 k0 k1 x sw w
      = k0_pay11 w k0_pay10 := by
  funext j
  unfold sout0_A_1
  frame_out

set_option maxHeartbeats 4000000 in
/-- At a middle point the squares and absolute values are added. -/
theorem reg_B (k0 : ¬cond0_0 i) (k1 : ¬cond0_1 i) :
    sout0_B_1 c i a1 h1 a2 h2 a3 h3 a4 h4 a5 h5 a6 h6 a7 h7 k0 k1 x sw w B R A
      = k0_pay11 w R := by
  funext j
  unfold sout0_B_1
  frame_out

set_option maxHeartbeats 4000000 in
/-- At the last point the squares and absolute values are added. -/
theorem reg_C (k0 : ¬cond0_0 i) (k1 : cond0_1 i) :
    sout0_C_1 c i a1 h1 a2 h2 a3 h3 a4 h4 a5 h5 a6 h6 a7 h7 k0 k1 x sw w B R A
      = k0_pay11 w R := by
  funext j
  unfold sout0_C_1
  frame_out

set_option maxHeartbeats 4000000 in
/-- The first point leaves the one-hot coding in the upper half. -/
theorem top_A (k0 : cond0_0 i) (k1 : ¬cond0_1 i) :
    View.ld (sout0_A_0 c i a1 h1 a2 h2 a3 h3 a4 h4 a5 h5 a6 h6 a7 h7 k0 k1 x sw w) topRect
      = oneHot x := by
  have e : sout0_A_0 c i a1 h1 a2 h2 a3 h3 a4 h4 a5 h5 a6 h6 a7 h7 k0 k1 x sw w = stack (oneHot x) (masked (oneHot x) (posWord (ptWord i) 7#32)) := by
    funext j
    unfold sout0_A_0
    frame_out
    rw [← View.read_writes_junk_eq_canon a5.view]
    simp only [readCov_top, read_bot_bot, read_bot_top]
    rfl
  rw [e, ld_top_stack]

set_option maxHeartbeats 4000000 in
/-- A middle point leaves the upper half as it was. -/
theorem top_B (k0 : ¬cond0_0 i) (k1 : ¬cond0_1 i) :
    View.ld (sout0_B_0 c i a1 h1 a2 h2 a3 h3 a4 h4 a5 h5 a6 h6 a7 h7 k0 k1 x sw w B R A) topRect
      = View.ld B topRect := by
  have e : sout0_B_0 c i a1 h1 a2 h2 a3 h3 a4 h4 a5 h5 a6 h6 a7 h7 k0 k1 x sw w B R A = stack (View.ld B topRect) (masked (View.ld B topRect) (posWord (ptWord i) 7#32)) := by
    funext j
    unfold sout0_B_0
    frame_out
    simp only [read_bot_bot, read_bot]
    rfl
  rw [e, ld_top_stack]

set_option maxHeartbeats 4000000 in
/-- The last point leaves the upper half as it was. -/
theorem top_C (k0 : ¬cond0_0 i) (k1 : cond0_1 i) :
    View.ld (sout0_C_0 c i a1 h1 a2 h2 a3 h3 a4 h4 a5 h5 a6 h6 a7 h7 k0 k1 x sw w B R A) topRect
      = View.ld B topRect := by
  have e : sout0_C_0 c i a1 h1 a2 h2 a3 h3 a4 h4 a5 h5 a6 h6 a7 h7 k0 k1 x sw w B R A = stack (View.ld B topRect) (masked (View.ld B topRect) (posWord (ptWord i) 7#32)) := by
    funext j
    unfold sout0_C_0
    frame_out
    simp only [read_bot_bot, read_bot]
    rfl
  rw [e, ld_top_stack]

set_option maxHeartbeats 4000000 in
/-- The last point puts the result together from the two running sums it leaves. -/
theorem out_C (k0 : ¬cond0_0 i) (k1 : cond0_1 i) :
    out0_C_3 c i a1 h1 a2 h2 a3 h3 a4 h4 a5 h5 a6 h6 a7 h7 k0 k1 x sw w B R A
      = k0_pay1 sw (accum x sw w (View.ld B topRect) (ptWord i) A) (k0_pay11 w R) := by
  funext j
  unfold out0_C_3
  frame_out
  simp only [read_bot_bot, read_bot]
  rfl

end Body

end Cert.Mrf

end
-- ==== Proof.Score.lean ====
module

public import Idealize.ShloMosaic.Lib.Pointwise
public import Mathlib.Analysis.SpecialFunctions.Log.Basic

/-!
# The loss over the reals

The score of a token at a position, and what one position of one sequence adds to the loss: the logarithm of the sum of
the exponentials of all tokens' scores, less the score of the sequence's own token.
-/

@[expose] public section

noncomputable section

namespace Cert.Mrf

open Idealize.ShloMosaic

/-- The score of token `j` at position `n`, the other positions holding the tokens `v`, under the single weights `a` and
the pair weights `p`. -/
def score (a p : ℕ → ℝ) (n : ℕ) (v : Fin 128 → ℕ) (j : ℕ) : ℝ :=
  a (20 * n + j) + ∑ l : Fin 128, p ((n * 128 + l.val) * 400 + j * 20 + v l)

/-- The tokens met when token `j` is tried at position `n`: `j` itself there, the last token before, the sequence's own after. -/
def tried (t : Fin 128 → ℕ) (n j : ℕ) : Fin 128 → ℕ := fun l => if l.val = n then j else if l.val < n then 19 else t l

/-- What position `n` of the sequence `t` adds to the loss. -/
def gap (a p : ℕ → ℝ) (t : Fin 128 → ℕ) (n : Fin 128) : ℝ :=
  Real.log (∑ j : Fin 20, Real.exp (score a p n.val (tried t n.val j.val) j.val)) - score a p n.val t (t n)

/-- The same with the position as a number, for the sums over ranges. -/
def gapAt (a p : ℕ → ℝ) (t : Fin 128 → ℕ) (m : ℕ) : ℝ := gap a p t (Fin.ofNat 128 m)

/-- What one weight adds to the regulariser. -/
def pen (y : ℝ) : ℝ := y * y + |y|

/-- The loss of 64 sequences: the mean of their gaps and the two regularisers. -/
def loss (a p : ℕ → ℝ) (T : Fin 64 → Fin 128 → ℕ) : EReal :=
  Ideal.div ((∑ b : Fin 64, ∑ n : Fin 128, gap a p (T b) n : ℝ) : EReal) (Ideal.ofBits .f32 1115684864#32)
    + ((∑ q : Fin 2560, pen (a q.val) : ℝ) : EReal)
    + Ideal.ofBits .f32 1103835955#32 * ((∑ q : Fin 6553600, pen (p q.val) : ℝ) : EReal)

/-- What one weight adds, in the extended reals. -/
theorem coe_pen (y : ℝ) : (y : EReal) * (y : EReal) + max (y : EReal) (-(y : EReal)) = ((pen y : ℝ) : EReal) := by
  unfold pen
  rw [← EReal.coe_neg, EReal.coe_add, EReal.coe_mul]
  exact congrArg _ (EReal.coe_strictMono.monotone.map_max).symm

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The logarithm of a sum of exponentials of reals. -/
theorem log_sum_exp (f : Fin 20 → ℝ) :
    Ideal.log (∑ j, Ideal.exp (f j : EReal)) = ((Real.log (∑ j, Real.exp (f j)) : ℝ) : EReal) := by
  have hp : 0 < ∑ j, Real.exp (f j) := Finset.sum_pos (fun j _ => Real.exp_pos _) ⟨0, Finset.mem_univ _⟩
  simp only [Ideal.exp_coe]
  rw [← coe_sum, Ideal.log_coe, if_neg (not_le.mpr hp)]

/-- Shifting by the greatest term changes nothing. -/
theorem log_sum_exp_shift (f : Fin 20 → ℝ) :
    Ideal.log (∑ j, Ideal.exp ((f j : EReal)
        - Finset.univ.fold max (Ideal.ofBits .f32 4286578688#32) fun j : Fin 20 => (f j : EReal)))
      + Finset.univ.fold max (Ideal.ofBits .f32 4286578688#32) (fun j : Fin 20 => (f j : EReal))
      = ((Real.log (∑ j, Real.exp (f j)) : ℝ) : EReal) := by
  have hb : Ideal.ofBits .f32 4286578688#32 = (⊥ : EReal) := by simp [Ideal.ofBits, Ideal.ieee]
  rw [hb]
  have ht : Finset.univ.fold max (⊥ : EReal) (fun j : Fin 20 => (f j : EReal)) < ⊤ :=
    (Finset.fold_max_lt (c := (⊤ : EReal))).2 ⟨bot_lt_top, fun j _ => EReal.coe_lt_top _⟩
  have hl : ⊥ < Finset.univ.fold max (⊥ : EReal) (fun j : Fin 20 => (f j : EReal)) :=
    (Finset.lt_fold_max (c := (⊥ : EReal))).2 (Or.inr ⟨0, Finset.mem_univ _, EReal.bot_lt_coe _⟩)
  generalize Finset.univ.fold max (⊥ : EReal) (fun j : Fin 20 => (f j : EReal)) = M at ht hl
  lift M to ℝ using ⟨ht.ne, hl.ne'⟩
  simp only [← EReal.coe_sub]
  rw [log_sum_exp, ← EReal.coe_add]
  congr 1
  simp only [Real.exp_sub]
  have hp : 0 < ∑ j, Real.exp (f j) := Finset.sum_pos (fun j _ => Real.exp_pos _) ⟨0, Finset.mem_univ _⟩
  rw [← Finset.sum_div, Real.log_div hp.ne' (Real.exp_pos _).ne', Real.log_exp]
  ring

end Cert.Mrf

end
-- ==== Proof.Position.lean ====
module

public import proofs.«01_k».proof.Proof.Parts
public import proofs.«01_k».proof.Proof.Codes
public import proofs.«01_k».proof.Proof.Rows
public import proofs.«01_k».proof.Proof.Steps
public import proofs.«01_k».proof.Proof.Score

/-!
# What one position adds to the running sum

With tokens in range and finite weights, the kernel's operations for one position add that position's `gap`.
-/

@[expose] public section

set_option maxRecDepth 16384

noncomputable section

namespace Cert.Mrf

open Idealize.ShloMosaic Idealize.ShloMosaic.TcCoe Idealize.SL.Sem
open Cert.KernelIdeal Cert.KernelIdeal.Gen

/-- The upper rows of two halves put together. -/
theorem stack_lt (O V : Vec Ideal S64x2560 .f32) (b : Fin 64) (c : Fin 2560) : stack O V (ix2 ⟨b.val, by omega⟩ c) = O (ix2 b c) :=
  dif_pos b.isLt

/-- The lower rows of two halves put together. -/
theorem stack_ge (O V : Vec Ideal S64x2560 .f32) (b : Fin 64) (c : Fin 2560) : stack O V (ix2 ⟨64 + b.val, by omega⟩ c) = V (ix2 b c) := by
  refine (dif_neg (by show ¬64 + b.val < 64; omega)).trans (congrArg V ?_)
  show ix2 _ _ = _
  congr 1
  exact Fin.ext (by show 64 + b.val - 64 = b.val; omega)

/-- A product with a one-hot coding picks, at every position, the entry of that position's token. -/
theorem sum_pick (t : Fin 128 → Fin 20) (g : Fin 128 → Fin 20 → EReal) :
    ∑ l : Fin 128, ∑ k : Fin 20, (if (t l).val = k.val then (1 : EReal) else 0) * g l k = ∑ l, g l (t l) := by
  refine Finset.sum_congr rfl fun l _ => ?_
  rw [Finset.sum_eq_single (t l), if_pos rfl, one_mul]
  · intro k _ hk
    rw [if_neg fun e => hk (Fin.ext e.symm), zero_mul]
  · exact fun h => absurd (Finset.mem_univ _) h

section

variable {x : Vec Ideal S64x128 .i32} {T : Fin 64 → Fin 128 → Fin 20} (hx : ∀ b l, (x (ix2 b l)).toInt = ((T b l).val : ℤ))
  {sw : Vec Ideal S20x128 .f32} {a : ℕ → ℝ} (ha : ∀ (r : Fin 20) (c : Fin 128), sw (ix2 r c) = ((a (r.val * 128 + c.val) : ℝ) : EReal))
  {P : FVec Ideal S128x400 .f32} {p : ℕ → ℝ} {n : Fin 128}
  (hp : ∀ (l : Fin 128) (r : Fin 400), P (ix2 l r) = ((p ((n.val * 128 + l.val) * 400 + r.val) : ℝ) : EReal))

include hx in
/-- The one-hot coding, by position and token. -/
theorem oneHot_tok (b : Fin 64) (c : Fin 2560) : oneHot x (ix2 b c)
    = if (T b ⟨c.val / 20, by omega⟩).val = c.val % 20 then (1 : EReal) else 0 := by
  rw [oneHot_apply, hx]
  exact if_congr Nat.cast_inj rfl rfl

include hx hp in
/-- The tokens' own pair weights. -/
theorem upper_val (b : Fin 64) (j : Fin 20) (V : Vec Ideal S64x2560 .f32) :
    k0_pay42 P (stack (oneHot x) V) (ix2 b j)
      = ((∑ l : Fin 128, p ((n.val * 128 + l.val) * 400 + j.val * 20 + (T b l).val) : ℝ) : EReal) := by
  rw [upper_apply, coe_sum, Fin.sum_divmod_congr (A := 128) (S := 20) (f := fun l k =>
    (if (T b l).val = k.val then (1 : EReal) else 0) * ((p ((n.val * 128 + l.val) * 400 + j.val * 20 + k.val) : ℝ) : EReal))]
  · exact sum_pick (T b) fun l k => ((p ((n.val * 128 + l.val) * 400 + j.val * 20 + k.val) : ℝ) : EReal)
  · intro c h1 h2
    rw [hp]
    have e : stack (oneHot x) V (ix2 ⟨b.val, by omega⟩ c) = oneHot x (ix2 b c) := stack_lt _ _ b c
    rw [e, oneHot_tok hx]
    simp only [add_assoc]

include hx hp in
/-- The pair weights against the tokens met when `j` is tried, the position itself left out. -/
theorem lower_val (b : Fin 64) (j : Fin 20) :
    k0_pay43 P (stack (oneHot x) (masked (oneHot x) (BitVec.ofNat 32 n.val))) (ix2 b j)
      = ((∑ l : Fin 128, (if l.val = n.val then 0 else
          p ((n.val * 128 + l.val) * 400 + j.val * 20 + tried (fun l => (T b l).val) n.val j.val l)) : ℝ) : EReal) := by
  rw [lower_apply, coe_sum, Fin.sum_divmod_congr (A := 128) (S := 20) (f := fun l k =>
    (if (if l.val < n.val then (19 : Fin 20) else T b l).val = k.val then (1 : EReal) else 0)
      * (if l.val = n.val then 0 else ((p ((n.val * 128 + l.val) * 400 + j.val * 20 + k.val) : ℝ) : EReal)))]
  · rw [sum_pick (fun l => if l.val < n.val then (19 : Fin 20) else T b l) (fun l k => if l.val = n.val then 0 else ((p ((n.val * 128 + l.val) * 400 + j.val * 20 + k.val) : ℝ) : EReal))]
    refine Finset.sum_congr rfl fun l _ => ?_
    unfold tried
    by_cases h1 : l.val = n.val
    · rw [if_pos h1, if_pos h1, EReal.coe_zero]
    · rw [if_neg h1, if_neg h1, if_neg h1]
      by_cases h2 : l.val < n.val
      · rw [if_pos h2, if_pos h2]; rfl
      · rw [if_neg h2, if_neg h2]
  · intro c h1 h2
    rw [hp]
    have e : stack (oneHot x) (masked (oneHot x) (BitVec.ofNat 32 n.val)) (ix2 ⟨64 + b.val, by omega⟩ c)
        = masked (oneHot x) (BitVec.ofNat 32 n.val) (ix2 b c) := stack_ge _ _ b c
    rw [e, masked_apply _ _ n.isLt, oneHot_tok hx]
    by_cases c1 : n.val < c.val / 20
    · simp only [if_pos c1, if_neg (show ¬c.val / 20 < n.val by omega), if_neg (show ¬c.val / 20 = n.val by omega), add_assoc]
    · by_cases c2 : c.val / 20 < n.val
      · simp only [if_neg c1, if_pos c2, if_neg (show ¬c.val / 20 = n.val by omega), add_assoc]
        congr 1
        exact if_congr ⟨fun h => h.symm, fun h => h.symm⟩ rfl rfl
      · simp only [if_neg c1, if_neg c2, if_pos (show c.val / 20 = n.val by omega), mul_zero, zero_mul]

include ha in
/-- The single weights. -/
theorem singles_val (z : Fin 1) (j : Fin 20) : singles sw (BitVec.ofNat 32 n.val) (ix2 z j) = ((a (20 * n.val + j.val) : ℝ) : EReal) := by
  rw [singles_apply sw n.val n.isLt, ha]
  congr 2
  simp only []
  omega

/-- A trial's score, the position's own pair apart. -/
theorem score_tried (a p : ℕ → ℝ) (n : Fin 128) (t : Fin 128 → ℕ) (j : ℕ) :
    score a p n.val (tried t n.val j) j = a (20 * n.val + j) + p ((n.val * 128 + n.val) * 400 + (j * 20 + j))
      + ∑ l : Fin 128, (if l.val = n.val then 0 else p ((n.val * 128 + l.val) * 400 + j * 20 + tried t n.val j l)) := by
  unfold score
  rw [← Finset.add_sum_erase _ _ (Finset.mem_univ n), ← Finset.add_sum_erase (a := n) Finset.univ (fun l : Fin 128 => if l.val = n.val then (0 : ℝ) else _) (Finset.mem_univ n)]
  have h1 : tried t n.val j n = j := if_pos rfl
  rw [if_pos rfl, h1, zero_add, ← add_assoc, Nat.add_assoc ((n.val * 128 + n.val) * 400)]
  congr 1
  refine Finset.sum_congr rfl fun l hl => ?_
  rw [if_neg fun e => Finset.ne_of_mem_erase hl (Fin.ext e)]

include hx ha hp in
/-- The logarithm of the sum over the tokens tried. -/
theorem logSum_val (b : Fin 64) (z : Fin 1) :
    logSum sw (BitVec.ofNat 32 n.val) P (k0_pay43 P (stack (oneHot x) (masked (oneHot x) (BitVec.ofNat 32 n.val)))) (ix2 b z)
      = ((Real.log (∑ j : Fin 20, Real.exp (score a p n.val (tried (fun l => (T b l).val) n.val j.val) j.val)) : ℝ) : EReal) := by
  rw [← log_sum_exp_shift]
  have e : ∀ j : Fin 20, singles sw (BitVec.ofNat 32 n.val) (ix2 0 j) + selfPair (BitVec.ofNat 32 n.val) P (ix2 0 j)
      + k0_pay43 P (stack (oneHot x) (masked (oneHot x) (BitVec.ofNat 32 n.val))) (ix2 b j)
      = ((score a p n.val (tried (fun l => (T b l).val) n.val j.val) j.val : ℝ) : EReal) := by
    intro j
    rw [singles_val ha, selfPair_apply _ n.isLt, hp, lower_val hx hp, score_tried, EReal.coe_add, EReal.coe_add]
  simp only [← e]
  generalize k0_pay43 P _ = R
  pointwise [logSum, k0_pay49]
  rfl

include hx ha hp in
/-- One position's operations add its `gap`. -/
theorem slot_val (acc : FVec Ideal S64x1 .f32) (b : Fin 64) (z : Fin 1) :
    slot x sw (stack (oneHot x) (masked (oneHot x) (BitVec.ofNat 32 n.val))) (BitVec.ofNat 32 n.val) P acc (ix2 b z)
      = acc (ix2 b z) + ((gap a p (fun l => (T b l).val) n : ℝ) : EReal) := by
  have h : ∀ B : Vec Ideal S128x2560 .f32, slot x sw B (BitVec.ofNat 32 n.val) P acc (ix2 b z) =
      acc (ix2 b z) + logSum sw (BitVec.ofNat 32 n.val) P (k0_pay43 P B) (ix2 b z)
        - ∑ j : Fin 20, FloatOps.sitofp (F := Ideal) .f32 (BitVec.setWidth 32 (BitVec.ofBool (decide
            ((∑ l : Fin 128, Scalar.select (IntOp.cmpi .eq (BitVec.ofNat 32 l.val) (BitVec.ofNat 32 n.val)) (((x (ix2 b l)).toInt : ℝ) : EReal) (0 : EReal))
              = FloatOps.sitofp (F := Ideal) .f32 (BitVec.ofNat 32 j.val)))))
          * (singles sw (BitVec.ofNat 32 n.val) (ix2 0 j) + k0_pay42 P B (ix2 b j)) := by
    intro B
    pointwise [slot, k0_pay52, k0_pay30, k0_pay31, k0_pay50, k0_pay51]
    rfl
  have hs : ∀ g : Fin 20 → EReal, ∑ j : Fin 20, FloatOps.sitofp (F := Ideal) .f32 (BitVec.setWidth 32 (BitVec.ofBool (decide
      ((((x (ix2 b n)).toInt : ℝ) : EReal) = FloatOps.sitofp (F := Ideal) .f32 (BitVec.ofNat 32 j.val))))) * g j = g (T b n) := by
    intro g
    rw [Finset.sum_eq_single (T b n)]
    · rw [sitofp_ofBool, sitofp_ofNat _ (by omega), hx, if_pos (by simp), one_mul]
    · intro j _ hj
      rw [sitofp_ofBool, sitofp_ofNat _ (by omega), hx, if_neg, zero_mul]
      simp only [decide_eq_true_eq, EReal.coe_eq_coe_iff]
      intro e
      exact hj (Fin.ext (by exact_mod_cast e.symm))
    · exact fun h => absurd (Finset.mem_univ _) h
  rw [h, logSum_val hx ha hp, sum_select n.isLt, hs, singles_val ha, upper_val hx hp,
    ← EReal.coe_add, sub_eq_add_neg, add_assoc, ← EReal.coe_neg, ← EReal.coe_add, ← sub_eq_add_neg]
  rfl

end

end Cert.Mrf

end
-- ==== Proof.Point.lean ====
module

public import proofs.«01_k».proof.Proof.Planes
public import proofs.«01_k».proof.Proof.Position

/-!
# What one grid point adds

A grid point takes eight positions.  Its running sum grows by their `gap`s, and its regulariser by its block's weights'.
-/

@[expose] public section

set_option maxRecDepth 16384

noncomputable section

namespace Cert.Mrf

open Idealize.ShloMosaic Idealize.ShloMosaic.TcCoe Idealize.SL.Sem
open Cert.KernelIdeal Cert.KernelIdeal.Gen

/-- The rows of position `s` lie inside the planes. -/
theorem slices_plane : ∀ s : Fin 8, S128x8x400.Slices ![s.val * 16, 0, 0] S16x8x400 := by decide

/-- The pair weights of the `s`-th of the eight positions. -/
def plane (w : Vec Ideal S3200x128 .f32) (s : Fin 8) : FVec Ideal S128x400 .f32 :=
  shapeCast S128x400 (extractStridedSlice S16x8x400 ![s.val * 16, 0, 0] (planes w) (slices_plane s)) shapeCasts_S16x8x400_S128x400

/-- They are the block's entries in their order. -/
theorem plane_apply (w : Vec Ideal S3200x128 .f32) (s : Fin 8) (l : Fin 128) (r : Fin 400) :
    plane w s (ix2 l r) = flatW w ((s.val * 128 + l.val) * 400 + r.val) (by omega) := by
  have h : plane w s (ix2 l r) = planes w (ix3 ⟨s.val * 16 + l.val / 8, by omega⟩ ⟨l.val % 8, by omega⟩ r) := by
    unfold plane
    generalize planes w = X
    pointwise
  rw [h, planes_apply]
  congr 1
  simp only []
  omega

/-- The word of the `s`-th of a point's eight positions. -/
theorem posWord_val (t s : ℕ) : posWord (BitVec.ofNat 32 t) (BitVec.ofNat 32 s) = BitVec.ofNat 32 (8 * t + s) := by
  rw [Nat.mul_comm]
  show BitVec.ofNat 32 t * BitVec.ofNat 32 8 + BitVec.ofNat 32 s = _
  rw [BitVec.ofNat_add, BitVec.ofNat_mul]

section

variable {x : Vec Ideal S64x128 .i32} {T : Fin 64 → Fin 128 → Fin 20} (hx : ∀ b l, (x (ix2 b l)).toInt = ((T b l).val : ℤ))
  {sw : Vec Ideal S20x128 .f32} {a : ℕ → ℝ} (ha : ∀ (r : Fin 20) (c : Fin 128), sw (ix2 r c) = ((a (r.val * 128 + c.val) : ℝ) : EReal))
  {w : Vec Ideal S3200x128 .f32} {p : ℕ → ℝ} {t : Fin 16}
  (hw : ∀ (r : Fin 3200) (c : Fin 128), w (ix2 r c) = ((p (t.val * 409600 + r.val * 128 + c.val) : ℝ) : EReal))

include hx ha hw in
/-- One of a point's eight positions adds its `gap`. -/
theorem slotAt_val (s : Fin 8) (acc : FVec Ideal S64x1 .f32) (b : Fin 64) (z : Fin 1) :
    slotAt x sw (oneHot x) (BitVec.ofNat 32 t.val) (BitVec.ofNat 32 s.val) (plane w s) acc (ix2 b z)
      = acc (ix2 b z) + ((gapAt a p (fun l => (T b l).val) (8 * t.val + s.val) : ℝ) : EReal) := by
  have hm : 8 * t.val + s.val < 128 := by omega
  have e : Fin.ofNat 128 (8 * t.val + s.val) = ⟨8 * t.val + s.val, hm⟩ := Fin.ext (Nat.mod_eq_of_lt hm)
  unfold slotAt gapAt
  rw [posWord_val, e]
  refine slot_val (n := ⟨8 * t.val + s.val, hm⟩) hx ha (fun l r => ?_) acc b z
  rw [plane_apply, flatW, hw]
  congr 2
  simp only []
  omega

include hx ha hw in
/-- A point's running sum grows by its eight positions' `gap`s. -/
theorem accum_val (acc : Vec Ideal S64x1 .f32) (b : Fin 64) (z : Fin 1)
    (hacc : acc (ix2 b z) = ((∑ m ∈ Finset.range (8 * t.val), gapAt a p (fun l => (T b l).val) m : ℝ) : EReal)) :
    accum x sw w (oneHot x) (BitVec.ofNat 32 t.val) acc (ix2 b z)
      = ((∑ m ∈ Finset.range (8 * (t.val + 1)), gapAt a p (fun l => (T b l).val) m : ℝ) : EReal) := by
  have h : accum x sw w (oneHot x) (BitVec.ofNat 32 t.val) acc (ix2 b z)
      = acc (ix2 b z) + eight x sw w (oneHot x) (BitVec.ofNat 32 t.val) (ix2 b z) := by
    unfold accum
    generalize eight x sw w (oneHot x) (BitVec.ofNat 32 t.val) = E
    pointwise
  have hE : eight x sw w (oneHot x) (BitVec.ofNat 32 t.val) =
      slotAt x sw (oneHot x) (BitVec.ofNat 32 t.val) (BitVec.ofNat 32 (7 : Fin 8).val) (plane w 7) (
      slotAt x sw (oneHot x) (BitVec.ofNat 32 t.val) (BitVec.ofNat 32 (6 : Fin 8).val) (plane w 6) (
      slotAt x sw (oneHot x) (BitVec.ofNat 32 t.val) (BitVec.ofNat 32 (5 : Fin 8).val) (plane w 5) (
      slotAt x sw (oneHot x) (BitVec.ofNat 32 t.val) (BitVec.ofNat 32 (4 : Fin 8).val) (plane w 4) (
      slotAt x sw (oneHot x) (BitVec.ofNat 32 t.val) (BitVec.ofNat 32 (3 : Fin 8).val) (plane w 3) (
      slotAt x sw (oneHot x) (BitVec.ofNat 32 t.val) (BitVec.ofNat 32 (2 : Fin 8).val) (plane w 2) (
      slotAt x sw (oneHot x) (BitVec.ofNat 32 t.val) (BitVec.ofNat 32 (1 : Fin 8).val) (plane w 1) (
      slotAt x sw (oneHot x) (BitVec.ofNat 32 t.val) (BitVec.ofNat 32 (0 : Fin 8).val) (plane w 0) k0_pay38))))))) := rfl
  have h0 : (k0_pay38 (F := Ideal)) (ix2 b z) = (0 : EReal) := by pointwise [k0_pay38]
  rw [h, hE]
  simp only [slotAt_val hx ha hw]
  rw [h0, hacc, zero_add]
  simp only [← EReal.coe_add]
  rw [show 8 * (t.val + 1) = 8 * t.val + 8 by omega]
  simp only [Finset.sum_range_succ, ← add_assoc]
  rfl

include hw in
/-- A point's regulariser grows by its block's weights'. -/
theorem reg_val (R : Vec Ideal S3200x128 .f32) (r : Fin 3200) (c : Fin 128)
    (hR : R (ix2 r c) = ((∑ u ∈ Finset.range t.val, pen (p (u * 409600 + r.val * 128 + c.val)) : ℝ) : EReal)) :
    k0_pay11 w R (ix2 r c) = ((∑ u ∈ Finset.range (t.val + 1), pen (p (u * 409600 + r.val * 128 + c.val)) : ℝ) : EReal) := by
  have h : k0_pay11 w R (ix2 r c) = R (ix2 r c) + (w (ix2 r c) * w (ix2 r c) + max (w (ix2 r c)) (-w (ix2 r c))) := by
    pointwise [k0_pay11, k0_pay7]
    rfl
  rw [h, hR, hw, coe_pen, ← EReal.coe_add, Finset.sum_range_succ]

end

/-- The result, from the two running sums after the last point. -/
theorem out_val {sw : Vec Ideal S20x128 .f32} {A : Vec Ideal S64x1 .f32} {R : Vec Ideal S3200x128 .f32} {a p : ℕ → ℝ}
    {T : Fin 64 → Fin 128 → ℕ} (ha : ∀ (r : Fin 20) (c : Fin 128), sw (ix2 r c) = ((a (r.val * 128 + c.val) : ℝ) : EReal))
    (hA : ∀ b z, A (ix2 b z) = ((∑ m ∈ Finset.range 128, gapAt a p (T b) m : ℝ) : EReal))
    (hR : ∀ r c, R (ix2 r c) = ((∑ u ∈ Finset.range 16, pen (p (u * 409600 + r.val * 128 + c.val)) : ℝ) : EReal)) (y z : Fin 1) :
    k0_pay1 sw A R (ix2 y z) = loss a p T := by
  have h : k0_pay1 sw A R (ix2 y z) = Ideal.div (∑ b, ∑ z : Fin 1, A (ix2 b 0)) (Ideal.ofBits .f32 1115684864#32)
      + (∑ r, ∑ c, (sw (ix2 r c) * sw (ix2 r c) + max (sw (ix2 r c)) (-sw (ix2 r c))))
      + Ideal.ofBits .f32 1103835955#32 * ∑ r, ∑ c, R (ix2 r c) := by
    pointwise [k0_pay1]
    rfl
  have e1 : ∑ b, ∑ z : Fin 1, A (ix2 b 0) = ((∑ b : Fin 64, ∑ n : Fin 128, gap a p (T b) n : ℝ) : EReal) := by
    rw [coe_sum]
    refine Finset.sum_congr rfl fun b _ => ?_
    rw [Finset.sum_const, Finset.card_univ, Fintype.card_fin, one_smul, hA, Finset.sum_range]
    refine congrArg _ (Finset.sum_congr rfl fun n _ => ?_)
    unfold gapAt
    rw [show Fin.ofNat 128 n.val = n from Fin.ext (Nat.mod_eq_of_lt n.isLt)]
  have e2 : ∑ r, ∑ c, (sw (ix2 r c) * sw (ix2 r c) + max (sw (ix2 r c)) (-sw (ix2 r c)))
      = ((∑ q : Fin 2560, pen (a q.val) : ℝ) : EReal) := by
    rw [Fin.sum_univ_tiles 20 128 rfl fun q : Fin 2560 => pen (a q.val)]
    simp only [coe_sum, ha, coe_pen]
  have e3 : ∑ r, ∑ c, R (ix2 r c) = ((∑ q : Fin 6553600, pen (p q.val) : ℝ) : EReal) := by
    rw [Fin.sum_univ_tiles 16 409600 rfl fun q : Fin 6553600 => pen (p q.val)]
    have hq : ∀ u : Fin 16, ∑ q : Fin 409600, pen (p (u.val * 409600 + q.val))
        = ∑ r : Fin 3200, ∑ c : Fin 128, pen (p (u.val * 409600 + (r.val * 128 + c.val))) :=
      fun u => Fin.sum_univ_tiles 3200 128 rfl fun q : Fin 409600 => pen (p (u.val * 409600 + q.val))
    have hc : ∑ u : Fin 16, ∑ r : Fin 3200, ∑ c : Fin 128, pen (p (u.val * 409600 + (r.val * 128 + c.val)))
        = ∑ r : Fin 3200, ∑ c : Fin 128, ∑ u : Fin 16, pen (p (u.val * 409600 + r.val * 128 + c.val)) := by
      rw [Finset.sum_comm]
      refine Finset.sum_congr rfl fun r _ => ?_
      rw [Finset.sum_comm]
      simp only [add_assoc]
    simp only [hq]
    rw [hc]
    simp only [coe_sum, hR, Finset.sum_range]
  rw [h, e1, e2, e3]
  rfl

end Cert.Mrf

end
-- ==== Proof.Chain.lean ====
module

public import proofs.«01_k».proof.Proof.Point
public import proofs.«01_k».proof.Proof.Steps

/-!
# The grid points in turn

After each point the running sums cover the positions and the blocks so far, and the coding in the upper half is the
tokens'; the last point leaves the loss.
-/

@[expose] public section

set_option maxRecDepth 16384

noncomputable section

namespace Cert.Mrf

open Idealize.ShloMosaic Idealize.ShloMosaic.TcCoe Idealize.SL.Sem
open Cert.KernelIdeal Cert.KernelIdeal.Gen Cert.KernelIdeal.Value

/-- The coordinate word of point `t` is `t`. -/
theorem ptWord_coords (t : Fin cfg0.N) : ptWord (grid0.coords t) = BitVec.ofNat 32 t.val := by
  revert t; decide

section

variable (m : (ℓ : Loc nD τ sig) → Buf (Elt Ideal) ℓ) (c : Dev nD)
  {x : Vec Ideal S64x128 .i32} {T : Fin 64 → Fin 128 → Fin 20} (hx : ∀ b l, (x (ix2 b l)).toInt = ((T b l).val : ℤ))
  {sw : Vec Ideal S20x128 .f32} {a : ℕ → ℝ} (ha : ∀ (r : Fin 20) (c : Fin 128), sw (ix2 r c) = ((a (r.val * 128 + c.val) : ℝ) : EReal))
  {p : ℕ → ℝ} (h0 : ∀ t, iblk m c 0 t = x) (h1 : ∀ t, iblk m c 1 t = sw)
  (h2 : ∀ (t : Fin cfg0.N) (r : Fin 3200) (q : Fin 128), (iblk m c 2 t : Vec Ideal S3200x128 .f32) (ix2 r q)
    = ((p (t.val * 409600 + r.val * 128 + q.val) : ℝ) : EReal))

/-- What the carried buffers hold once `n` points are done. -/
def Done (x : Vec Ideal S64x128 .i32) (T : Fin 64 → Fin 128 → Fin 20) (a p : ℕ → ℝ) (n : ℕ)
    (o : Vec Ideal S1x1 .f32 × Vec Ideal S128x2560 .f32 × Vec Ideal S3200x128 .f32 × Vec Ideal S64x1 .f32) : Prop :=
  View.ld o.2.1 topRect = oneHot x
    ∧ (∀ r q, o.2.2.1 (ix2 r q) = ((∑ u ∈ Finset.range n, pen (p (u * 409600 + r.val * 128 + q.val)) : ℝ) : EReal))
    ∧ (∀ b z, o.2.2.2 (ix2 b z) = ((∑ k ∈ Finset.range (8 * n), gapAt a p (fun l => (T b l).val) k : ℝ) : EReal))

include hx ha h0 h1 h2

/-- The first point. -/
theorem done_first (t : Fin cfg0.N) (ht : t.val = 0) (o) : Done x T a p (t.val + 1) (stAt0 m c t.val t.isLt o) := by
  have hN : t.val < 16 := t.isLt
  rw [stAt0_A m c t o (by omega) (by omega)]
  refine ⟨?_, fun r q => ?_, fun b z => ?_⟩
  · dsimp only
    rw [top_A, h0]
  · dsimp only
    rw [reg_A]
    refine reg_val (t := ⟨t.val, hN⟩) (h2 t) _ r q ?_
    simp only [ht, Finset.range_zero, Finset.sum_empty]
    pointwise [k0_pay10]
    rfl
  · dsimp only
    rw [sum_A, h0, h1, ptWord_coords]
    refine accum_val (t := ⟨t.val, hN⟩) hx ha (h2 t) _ b z ?_
    simp only [ht, Nat.mul_zero, Finset.range_zero, Finset.sum_empty]
    pointwise [k0_pay9]
    rfl

/-- A later point. -/
theorem done_next (t : Fin cfg0.N) (ht : t.val ≠ 0) (o) (ho : Done x T a p t.val o) :
    Done x T a p (t.val + 1) (stAt0 m c t.val t.isLt o) := by
  have hN : t.val < 16 := t.isLt
  obtain ⟨e1, e2, e3⟩ := ho
  by_cases hl : t.val = 15
  · rw [stAt0_C m c t o (by omega) (by omega)]
    refine ⟨?_, fun r q => ?_, fun b z => ?_⟩
    · dsimp only
      rw [top_C, e1]
    · dsimp only
      rw [reg_C]
      exact reg_val (t := ⟨t.val, hN⟩) (h2 t) _ r q (e2 r q)
    · dsimp only
      rw [sum_C, h0, h1, ptWord_coords, e1]
      exact accum_val (t := ⟨t.val, hN⟩) hx ha (h2 t) _ b z (e3 b z)
  · rw [stAt0_B m c t o (by omega) (by omega)]
    refine ⟨?_, fun r q => ?_, fun b z => ?_⟩
    · dsimp only
      rw [top_B, e1]
    · dsimp only
      rw [reg_B]
      exact reg_val (t := ⟨t.val, hN⟩) (h2 t) _ r q (e2 r q)
    · dsimp only
      rw [sum_B, h0, h1, ptWord_coords, e1]
      exact accum_val (t := ⟨t.val, hN⟩) hx ha (h2 t) _ b z (e3 b z)

/-- Every point. -/
theorem done_all : ∀ (n : ℕ) (hn : n < cfg0.N), Done x T a p (n + 1) (outsAt0 m c n hn)
  | 0, hn => by
      rw [outsAt0_zero]
      exact done_first m c hx ha h0 h1 h2 ⟨0, hn⟩ rfl _
  | n + 1, hn => by
      rw [outsAt0_succ]
      exact done_next m c hx ha h0 h1 h2 ⟨n + 1, hn⟩ (Nat.succ_ne_zero n) _ (done_all n (Nat.lt_of_succ_lt hn))

/-- The last point leaves the loss. -/
theorem out_last (h15 : 15 < cfg0.N) (y z : Fin 1) :
    (outsAt0 m c 15 h15).1 (ix2 y z) = loss a p fun b l => (T b l).val := by
  obtain ⟨e1, e2, e3⟩ := done_all m c hx ha h0 h1 h2 14 (by exact Nat.lt_of_succ_lt h15)
  rw [outsAt0_succ m c 14 h15, stAt0_C m c ⟨15, h15⟩ _ (by simp only []; omega) (by simp only [])]
  dsimp only
  rw [out_C, h0, h1, ptWord_coords, e1]
  refine out_val ha (fun b z => ?_) (fun r q => ?_) y z
  · exact accum_val (t := 15) hx ha (h2 ⟨15, h15⟩) _ b z (e3 b z)
  · exact reg_val (t := 15) (h2 ⟨15, h15⟩) _ r q (e2 r q)

end

end Cert.Mrf

end
-- ==== Proof.Arrays.lean ====
module

public import proofs.«01_k».proof.Proof.Chain

@[expose] public section

set_option maxRecDepth 16384

noncomputable section

namespace Cert.Mrf

open Idealize.ShloMosaic Idealize.ShloMosaic.TcCoe Idealize.SL.Sem
open Cert.KernelIdeal Cert.KernelIdeal.Gen Cert.KernelIdeal.Value

variable (m : (ℓ : Loc nD τ sig) → Buf (Elt Ideal) ℓ) (c : Dev nD)

/-- The block of each input at every grid point: the first two inputs whole, the third in sixteen bands. -/
theorem blockIdx : ∀ t : Fin cfg0.N, win0_0.index t = ![0, 0] ∧ win0_1.index t = ![0, 0] ∧ win0_2.index t = ![t.val, 0] :=
  (by decide +kernel : ∀ t : Fin grid0.N, _)

/-- Every grid point reads all tokens. -/
theorem tokens_read (t : Fin cfg0.N) : iblk m c 0 t = m ((c : Thread nD τ).loc main_arg0) := by
  blk_ext! [iblk, V, blockIdx t]

/-- Every grid point reads all single weights, laid out 128 to a row. -/
theorem singles_read (t : Fin cfg0.N) (r : Fin 20) (q : Fin 128) :
    (iblk m c 1 t : Vec Ideal S20x128 .f32) (ix2 r q) = (m ((c : Thread nD τ).loc main_arg1) : FVec Ideal S2560x1 .f32) (ix2 ⟨r.val * 128 + q.val, by omega⟩ 0) := by
  blk_simp [iblk, blockIdx t]
  entry_read
  pointwise
  blk_ext [blockIdx t]

/-- Grid point `t` reads the `t`-th band of 409600 pair weights, laid out 128 to a row. -/
theorem pairs_read (t : Fin cfg0.N) (r : Fin 3200) (q : Fin 128) (h : t.val * 409600 + r.val * 128 + q.val < 6553600):
    (iblk m c 2 t : Vec Ideal S3200x128 .f32) (ix2 r q) = (m ((c : Thread nD τ).loc main_arg2) : FVec Ideal S6553600x1 .f32) (ix2 ⟨t.val * 409600 + r.val * 128 + q.val, h⟩ 0) := by
  blk_simp [iblk, blockIdx t]
  entry_read
  pointwise
  blk_ext [blockIdx t]

/-- The kernel's result is the loss, once the tokens and the weights have been read off as numbers. -/
theorem kernel_loss (T : Fin 64 → Fin 128 → Fin 20) (a p : ℕ → ℝ)
    (hx : ∀ b l, ((m ((c : Thread nD τ).loc main_arg0) : IVec S64x128 32) (ix2 b l)).toInt = ((T b l).val : ℤ))
    (ha : ∀ q : Fin 2560, (m ((c : Thread nD τ).loc main_arg1) : FVec Ideal S2560x1 .f32) (ix2 q 0) = ((a q.val : ℝ) : EReal))
    (hp : ∀ q : Fin 6553600, (m ((c : Thread nD τ).loc main_arg2) : FVec Ideal S6553600x1 .f32) (ix2 q 0) = ((p q.val : ℝ) : EReal))
    (y z : Fin 1) : (G3 m c : FVec Ideal S1x1 .f32) (ix2 y z) = loss a p fun b l => (T b l).val := by
  have h15 : 15 < cfg0.N := by decide +kernel
  have h1 : ∀ t, iblk m c 1 t = iblk m c 1 ⟨15, h15⟩ := by
    intro t
    funext i
    obtain ⟨r, q, rfl⟩ : ∃ (r : Fin 20) (q : Fin 128), i = ix2 r q := ⟨i 0, i 1, by blk_ext []⟩
    exact (singles_read m c t r q).trans (singles_read m c ⟨15, h15⟩ r q).symm
  have hN : ∀ t : Fin cfg0.N, t.val < 16 := by decide +kernel
  rw [G3_last, ← outsAt0_sweep m c 15 h15]
  exact out_last m c hx (fun r q => (singles_read m c ⟨15, h15⟩ r q).trans (ha _)) (tokens_read m c) h1
    (fun t r q => (pairs_read m c t r q (by have := hN t; omega)).trans (hp _)) h15 y z

end Cert.Mrf

end
-- ==== Proof.Inputs.lean ====
module

public import Idealize.ShloMosaic.Lib.Pointwise
public import proofs.«01_k».proof.Proof.Words
public import proofs.«01_k».proof.Proof.Gen.Pre_tokens_and_finite

/-!
# What the precondition gives

Tokens between 0 and 19 are numbers below 20, and weights of finite size are reals.
-/

@[expose] public section

set_option maxRecDepth 16384

noncomputable section

namespace Cert.Mrf

open Idealize.ShloMosaic Idealize.ShloMosaic.TcCoe Idealize.SL.Sem
open Cert.Pre_tokens_and_finite Cert.Pre_tokens_and_finite.Gen

/-- A word that is at least 0 and less than 20 stands for a number below 20. -/
theorem token_range (w : BitVec 32) (h : IntOp.andi (IntOp.cmpi .sge w 0#32) (IntOp.cmpi .slt w 20#32) = 1#1) :
    ∃ t : Fin 20, w.toInt = (t.val : ℤ) ∧ w = BitVec.ofNat 32 t.val := by
  have h1 : (0#32).sle w = true ∧ w.slt 20#32 = true := by
    revert h
    unfold IntOp.cmpi IntOp.andi
    simp only [show ∀ p : Bool, p = true ∨ p = false from fun p => by cases p <;> simp]
    cases hA : (0#32).sle w <;> cases hB : w.slt 20#32 <;> simp_all
  have h2 : 0 ≤ w.toInt := by simpa [BitVec.sle] using h1.1
  have h3 : w.toInt < 20 := by simpa [BitVec.slt] using h1.2
  refine ⟨⟨w.toInt.toNat, by omega⟩, by simp only []; omega, ?_⟩
  apply BitVec.eq_of_toInt_eq
  rw [toInt_ofNat _ (by simp only []; omega)]
  simp only []
  omega

/-- A weight whose size is less than infinity is a real. -/
theorem finite_weight (w : EReal) (h : FloatOps.cmpf (F := Ideal) (φ := .f32) .olt (FloatOps.hostAbsf (F := Ideal) (φ := .f32) w) (FloatOps.ofBits (F := Ideal) .f32 0x7F800000#32) = 1#1) :
    w = ((w.toReal : ℝ) : EReal) := by
  have ht : (FloatOps.ofBits (F := Ideal) .f32 0x7F800000#32 : EReal) = ⊤ := by
    show Ideal.ofBits .f32 0x7F800000#32 = _
    simp [Ideal.ofBits, Ideal.ieee]
  rw [ht] at h
  have h1 : max w (-w) < ⊤ := by
    by_contra hn
    have : FloatOps.cmpf (F := Ideal) (φ := .f32) .olt (FloatOps.hostAbsf (F := Ideal) (φ := .f32) w) (⊤ : EReal) = BitVec.ofBool (decide (max w (-w) < ⊤)) := rfl
    rw [this, decide_eq_false hn] at h
    exact absurd h (by decide)
  refine (EReal.coe_toReal ?_ ?_).symm
  · rintro rfl
    simp at h1
  · rintro rfl
    simp at h1

variable {x0 : IVec S64x128 32} {x1 : FVec Ideal S2560x1 .f32} {x2 : FVec Ideal S6553600x1 .f32}

/-- Under the precondition the tokens are numbers below 20. -/
theorem tokens_of_pre (h : (fn (F := Ideal) x0 x1 x2).1 = fun _ => 1#1) :
    ∃ T : Fin 64 → Fin 128 → Fin 20, ∀ b l, (x0 (ix2 b l)).toInt = ((T b l).val : ℤ) ∧ x0 (ix2 b l) = BitVec.ofNat 32 (T b l).val := by
  have h1 : ∀ b l, ∃ t : Fin 20, (x0 (ix2 b l)).toInt = (t.val : ℤ) ∧ x0 (ix2 b l) = BitVec.ofNat 32 t.val := fun b l =>
    token_range _ (congrFun h (ix2 b l))
  choose T hT using h1
  exact ⟨T, hT⟩

/-- A column of reals as a family of numbers. -/
theorem column_real {N : ℕ} (x : (⟨2, ![N, 1]⟩ : Shape).Idx → EReal) (h : ∀ i, x i = (((x i).toReal : ℝ) : EReal)) :
    ∃ a : ℕ → ℝ, ∀ q : Fin N, x (ix2 q 0) = ((a q.val : ℝ) : EReal) :=
  ⟨fun q => if hq : q < N then (x (ix2 ⟨q, hq⟩ 0)).toReal else 0, fun q => by
    simp only [q.isLt, dite_true]
    exact h _⟩

/-- Under the precondition the single weights are reals. -/
theorem singles_of_pre (h : (fn (F := Ideal) x0 x1 x2).2.1 = fun _ => 1#1) :
    ∃ a : ℕ → ℝ, ∀ q : Fin 2560, x1 (ix2 q 0) = ((a q.val : ℝ) : EReal) :=
  column_real x1 fun i => finite_weight _ (congrFun h i)

/-- Under the precondition the pair weights are reals. -/
theorem pairs_of_pre (h : (fn (F := Ideal) x0 x1 x2).2.2 = fun _ => 1#1) :
    ∃ p : ℕ → ℝ, ∀ q : Fin 6553600, x2 (ix2 q 0) = ((p q.val : ℝ) : EReal) :=
  column_real x2 fun i => finite_weight _ (congrFun h i)

end Cert.Mrf

end
-- ==== Proof.Gathers.lean ====
module

public import proofs.«01_k».proof.Proof.Words
public import proofs.«01_k».proof.Proof.Score
public import proofs.«01_k».proof.Proof.Gen.ReferenceIdeal.Read

/-!
# What the reference looks up

The reference computes flat positions of weights as words and looks the weights up there. Here the positions are read as
numbers, and each looked-up weight as the weight at that number.
-/

@[expose] public section

set_option maxRecDepth 16384

noncomputable section

namespace Cert.Mrf

open Idealize.ShloMosaic Idealize.ShloMosaic.TcCoe Idealize.SL.Sem
open Cert.ReferenceIdeal Cert.ReferenceIdeal.Gen Cert.ReferenceIdeal.Read

/-- Looking up single elements of a flat array of `N`, one per result index. -/
abbrev lookupDims (N : ℕ) (si r : Shape) (k : ℕ) (wf : GatherDims.WF ⟨1, ![N]⟩ si r [] [0] [] [0] [] k ![1]) : GatherDims ⟨1, ![N]⟩ si r where
  offsetDims := []
  collapsedSliceDims := [0]
  operandBatchingDims := []
  startIndicesBatchingDims := []
  startIndexMap := [0]
  indexVectorDim := k
  sliceSizes := ![1]
  wf := wf

/-- The element looked up is the one at the number its position word stands for, where that is in range. -/
theorem lookup_apply {α : Type} {N : ℕ} {si r : Shape} {k : ℕ} (wf : GatherDims.WF ⟨1, ![N]⟩ si r [] [0] [] [0] [] k ![1])
    (x : (⟨1, ![N]⟩ : Shape).Idx → α) (I : IVec si 32) (y : r.Idx) (i : si.Idx)
    (hi : (lookupDims N si r k wf).siIdx y ⟨List.idxOf (0 : Fin 1) (lookupDims N si r k wf).startIndexMap,
      List.idxOf_lt_length_iff.2 (List.mem_singleton.mpr rfl)⟩ = i) (q : ℕ) (hq : q < N) (h31 : q < 2147483648) (hI : I i = BitVec.ofNat 32 q) :
    Host.gather (lookupDims N si r k wf) x I y = x (ix1 ⟨q, hq⟩) := by
  unfold Host.gather
  congr 1
  funext a
  obtain rfl : a = 0 := Subsingleton.elim _ _
  refine Fin.ext ?_
  show (lookupDims N si r k wf).start y I 0 + (lookupDims N si r k wf).batchCoord y 0 + (lookupDims N si r k wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (lookupDims N si r k wf).startIndexMap from List.mem_singleton.mpr rfl), hi, hI, toInt_ofNat q h31]
  show min ((q : ℤ).toNat) (N - 1) = q
  rw [Int.toNat_natCast]
  omega

/-- Multiplying and adding small words. -/
theorem mul_add_word (k a b : ℕ) : IntOp.addi (IntOp.muli (BitVec.ofNat 32 k) (BitVec.ofNat 32 a)) (BitVec.ofNat 32 b)
    = BitVec.ofNat 32 (k * a + b) := by
  show BitVec.ofNat 32 k * BitVec.ofNat 32 a + BitVec.ofNat 32 b = _
  rw [BitVec.ofNat_add, BitVec.ofNat_mul]

/-- Multiplying small words. -/
theorem mul_word (k a : ℕ) : IntOp.muli (BitVec.ofNat 32 k) (BitVec.ofNat 32 a) = BitVec.ofNat 32 (k * a) :=
  (BitVec.ofNat_mul ..).symm

/-- Adding small words. -/
theorem add_word (k a : ℕ) : IntOp.addi (BitVec.ofNat 32 k) (BitVec.ofNat 32 a) = BitVec.ofNat 32 (k + a) :=
  (BitVec.ofNat_add ..).symm

/-- A position word that is not negative is left as it is. -/
theorem wrap_word (q : ℕ) (h : q < 2147483648) (y : BitVec 32) :
    Scalar.select (IntOp.cmpi .slt (BitVec.ofNat 32 q) 0#32) y (BitVec.ofNat 32 q) = BitVec.ofNat 32 q := by
  rw [select_slt q 0 h (by decide), if_neg (Nat.not_lt_zero q)]

variable {x0 : (⟨S64x128, .i32⟩ : BufTy).Contents (Elt Ideal)} {x1 : (⟨S2560x1, .f32⟩ : BufTy).Contents (Elt Ideal)}
  {x2 : (⟨S6553600x1, .f32⟩ : BufTy).Contents (Elt Ideal)} {T : Fin 64 → Fin 128 → Fin 20} {a p : ℕ → ℝ}
  (hx : ∀ b l, (x0 : IVec S64x128 32) (ix2 b l) = BitVec.ofNat 32 (T b l).val)
  (ha : ∀ q : Fin 2560, (x1 : FVec Ideal S2560x1 .f32) (ix2 q 0) = ((a q.val : ℝ) : EReal))
  (hp : ∀ q : Fin 6553600, (x2 : FVec Ideal S6553600x1 .f32) (ix2 q 0) = ((p q.val : ℝ) : EReal))

include hx in
/-- Where the weight of the token at a position lies. -/
theorem ownWord (b : Fin 64) (n : Fin 128) (z : Fin 1) :
    val_main_v13 (F := Ideal) x0 (ix3 b n z) = BitVec.ofNat 32 (n.val * 20 + (T b n).val) := by
  simp only [val_main_v13, val_main_v12, val_main_v11, val_main_v9, val_main_v7, val_main_v6, val_main_v5, val_main_v3,
    val_main_v4, val_main_v0, val_main_c, val_main_c_0, val_main_c_1, val_main_v8, val_main_v10]
  pointwise
  have := (T b n).isLt
  have := n.isLt
  rw [hx, mul_add_word, wrap_word _ (by omega)]

include hx ha in
/-- The single weight of the token at a position. -/
theorem own_apply (b : Fin 64) (n : Fin 128) :
    val_main_v14 (F := Ideal) x0 x1 (ix2 b n) = ((a (20 * n.val + (T b n).val) : ℝ) : EReal) := by
  have h1 := (T b n).isLt
  have h2 := n.isLt
  refine (lookup_apply gather_S2560_S64x128x1_S64x128_n_0_n_n_0_2_1_wf (val_main_v1 (F := Ideal) x1) _ (ix2 b n) (ix3 b n 0) ?_
    (n.val * 20 + (T b n).val) (by omega) (by omega) (ownWord hx b n 0)).trans ?_
  · funext c
    match c with
    | ⟨0, _⟩ => rfl
    | ⟨1, _⟩ => rfl
    | ⟨2, _⟩ => rfl
  · unfold val_main_v1
    pointwise
    refine (ha _).trans ?_
    simp only [Nat.mul_comm]

include ha in
/-- The single weight of any token at a position. -/
theorem any_apply (b : Fin 64) (n : Fin 128) (j : Fin 20) :
    val_main_v17 (F := Ideal) x1 (ix3 b n j) = ((a (20 * n.val + j.val) : ℝ) : EReal) := by
  simp only [val_main_v17, val_main_v16, val_main_v15]
  pointwise
  refine (ha _).trans ?_
  simp only [Nat.mul_comm]

include hx in
/-- Where the pair weight of the tokens at two positions lies. -/
theorem pairWord (b : Fin 64) (n l : Fin 128) (z : Fin 1) :
    val_main_v42 (F := Ideal) x0 (ix4 b n l z)
      = BitVec.ofNat 32 ((n.val * 128 + l.val) * 400 + (T b n).val * 20 + (T b l).val) := by
  simp only [val_main_v42, val_main_v41, val_main_v40, val_main_v39, val_main_v38, val_main_v37, val_main_v36, val_main_v35,
    val_main_v34, val_main_v33, val_main_v32, val_main_v31, val_main_v30, val_main_v29, val_main_v28, val_main_v27,
    val_main_v26, val_main_v25, val_main_v24, val_main_v23, val_main_v22, val_main_v21, val_main_v20, val_main_v19,
    val_main_v18, val_main_v0, val_main_c_2, val_main_c_3, val_main_c_4, val_main_c_5, val_main_c_6]
  pointwise
  have := (T b n).isLt
  have := (T b l).isLt
  have := n.isLt
  have := l.isLt
  rw [hx, hx, mul_add_word, mul_word, mul_word, add_word, add_word, wrap_word _ (by omega)]

include hx hp in
/-- The pair weight of the tokens at two positions. -/
theorem pair_apply (b : Fin 64) (n l : Fin 128) :
    val_main_v43 (F := Ideal) x0 x2 (ix3 b n l)
      = ((p ((n.val * 128 + l.val) * 400 + (T b n).val * 20 + (T b l).val) : ℝ) : EReal) := by
  have h1 := (T b n).isLt
  have h2 := (T b l).isLt
  have h3 := n.isLt
  have h4 := l.isLt
  refine (lookup_apply gather_S6553600_S64x128x128x1_S64x128x128_n_0_n_n_0_3_1_wf (val_main_v2 (F := Ideal) x2) _ (ix3 b n l) (ix4 b n l 0) ?_
    _ (by omega) (by omega) (pairWord hx b n l 0)).trans ?_
  · funext c
    match c with
    | ⟨0, _⟩ => rfl
    | ⟨1, _⟩ => rfl
    | ⟨2, _⟩ => rfl
    | ⟨3, _⟩ => rfl
  · unfold val_main_v2
    pointwise
    exact hp _

include hx in
/-- The tokens met when a token is tried at a position. -/
theorem tried_apply (b : Fin 64) (n l : Fin 128) (j : Fin 20) :
    val_main_v56 (F := Ideal) x0 (ix4 b n l j) = BitVec.ofNat 32 (tried (fun l => (T b l).val) n.val j.val l) := by
  simp only [val_main_v56, val_main_call1_v0, val_main_call1_v1, val_main_call1_v2, val_main_v55, val_main_call0_v0,
    val_main_call0_v1, val_main_call0_v2, val_main_call0_v3, val_main_v50, val_main_v53, val_main_v47, val_main_v48,
    val_main_v49, val_main_v51, val_main_v52, val_main_v54, val_main_v46, val_main_v45, val_main_v44, val_main_v0,
    val_main_c_7]
  pointwise
  have := n.isLt
  have := l.isLt
  rw [hx, select_eq _ _ (by omega) (by omega), select_slt _ _ (by omega) (by omega)]
  unfold tried
  split_ifs <;> rfl

include hx in
/-- Where the pair weight of a tried token and a token met lies. -/
theorem triedWord (b : Fin 64) (n l : Fin 128) (j : Fin 20) (z : Fin 1) :
    val_main_v70 (F := Ideal) x0 (ix5 b n l j z)
      = BitVec.ofNat 32 ((n.val * 128 + l.val) * 400 + j.val * 20 + tried (fun l => (T b l).val) n.val j.val l) := by
  have h := tried_apply hx b n l j
  simp only [val_main_v70, val_main_v69, val_main_v68, val_main_v67, val_main_v66, val_main_v65, val_main_v64, val_main_v63,
    val_main_v62, val_main_v61, val_main_v60, val_main_v59, val_main_v58, val_main_v57, val_main_v47, val_main_v44,
    val_main_v26, val_main_v25, val_main_v24, val_main_v23, val_main_v22, val_main_v21, val_main_v20, val_main_v19,
    val_main_v18, val_main_v0, val_main_c_2, val_main_c_3, val_main_c_8, val_main_c_9, val_main_c_10]
  revert h
  generalize val_main_v56 (F := Ideal) x0 = V
  intro h
  pointwise
  have hv : tried (fun l => (T b l).val) n.val j.val l < 20 := by
    have := (T b l).isLt
    unfold tried
    split_ifs <;> omega
  rw [h, mul_add_word, mul_word, mul_word, add_word, add_word, wrap_word _ (by omega)]

include hx hp in
/-- The pair weight of a tried token and a token met. -/
theorem triedPair_apply (b : Fin 64) (n l : Fin 128) (j : Fin 20) :
    val_main_v71 (F := Ideal) x0 x2 (ix4 b n l j)
      = ((p ((n.val * 128 + l.val) * 400 + j.val * 20 + tried (fun l => (T b l).val) n.val j.val l) : ℝ) : EReal) := by
  have hv : tried (fun l => (T b l).val) n.val j.val l < 20 := by
    have := (T b l).isLt
    unfold tried
    split_ifs <;> omega
  refine (lookup_apply gather_S6553600_S64x128x128x20x1_S64x128x128x20_n_0_n_n_0_4_1_wf (val_main_v2 (F := Ideal) x2) _ (ix4 b n l j) (ix5 b n l j 0) ?_
    _ (by omega) (by omega) (triedWord hx b n l j 0)).trans ?_
  · funext c
    match c with
    | ⟨0, _⟩ => rfl
    | ⟨1, _⟩ => rfl
    | ⟨2, _⟩ => rfl
    | ⟨3, _⟩ => rfl
    | ⟨4, _⟩ => rfl
  · unfold val_main_v2
    pointwise
    exact hp _

end Cert.Mrf

end
-- ==== Proof.Reference.lean ====
module

public import proofs.«01_k».proof.Proof.Gathers
public import Idealize.ShloMosaic.Lib.Pipeline.ValueKit

/-!
# The reference's loss

The reference read as a number: the score of every token at every position, the gap between the logarithm of the summed
exponentials and the score of the sequence's own token, the mean over the sequences, and the regularisers.
-/

@[expose] public section

set_option maxRecDepth 16384

noncomputable section

namespace Cert.Mrf

open Idealize.ShloMosaic Idealize.ShloMosaic.TcCoe Idealize.SL.Sem
open Cert.ReferenceIdeal Cert.ReferenceIdeal.Gen Cert.ReferenceIdeal.Read

variable {x0 : (⟨S64x128, .i32⟩ : BufTy).Contents (Elt Ideal)} {x1 : (⟨S2560x1, .f32⟩ : BufTy).Contents (Elt Ideal)}
  {x2 : (⟨S6553600x1, .f32⟩ : BufTy).Contents (Elt Ideal)} {T : Fin 64 → Fin 128 → Fin 20} {a p : ℕ → ℝ}
  (hx : ∀ b l, (x0 : IVec S64x128 32) (ix2 b l) = BitVec.ofNat 32 (T b l).val)
  (ha : ∀ q : Fin 2560, (x1 : FVec Ideal S2560x1 .f32) (ix2 q 0) = ((a q.val : ℝ) : EReal))
  (hp : ∀ q : Fin 6553600, (x2 : FVec Ideal S6553600x1 .f32) (ix2 q 0) = ((p q.val : ℝ) : EReal))

/-- The zero the sums start from. -/
theorem start_zero : Ideal.ofBits .f32 0x00000000#32 = (0 : EReal) := by simp [Ideal.ofBits, Ideal.ieee]

include hx ha hp in
/-- The score of a tried token. -/
theorem triedScore_apply (b : Fin 64) (n : Fin 128) (j : Fin 20) :
    val_main_v75 (F := Ideal) x0 x1 x2 (ix3 b n j)
      = ((score a p n.val (tried (fun l => (T b l).val) n.val j.val) j.val : ℝ) : EReal) := by
  have h : val_main_v72 (F := Ideal) x0 x2 (ix3 b n j)
      = ((∑ l : Fin 128, p ((n.val * 128 + l.val) * 400 + j.val * 20 + tried (fun l => (T b l).val) n.val j.val l) : ℝ) : EReal) := by
    rw [coe_sum, val_main_v72_apply]
    refine (congrArg₂ (· + ·) start_zero (Finset.sum_congr rfl fun l _ => ?_)).trans (zero_add _)
    refine Eq.trans (congrArg _ ?_) (triedPair_apply hx hp b n l j)
    blk_ext []
  rw [val_main_v75_apply, any_apply ha, h]
  exact (EReal.coe_add _ _).symm

include hx ha hp in
/-- The score of the sequence's own token. -/
theorem ownScore_apply (b : Fin 64) (n : Fin 128) :
    val_main_v74 (F := Ideal) x0 x1 x2 (ix2 b n) = ((score a p n.val (fun l => (T b l).val) (T b n).val : ℝ) : EReal) := by
  have h : val_main_v73 (F := Ideal) x0 x2 (ix2 b n)
      = ((∑ l : Fin 128, p ((n.val * 128 + l.val) * 400 + (T b n).val * 20 + (T b l).val) : ℝ) : EReal) := by
    rw [coe_sum, val_main_v73_apply]
    refine (congrArg₂ (· + ·) start_zero (Finset.sum_congr rfl fun l _ => ?_)).trans (zero_add _)
    refine Eq.trans (congrArg _ ?_) (pair_apply hx hp b n l)
    blk_ext []
  rw [val_main_v74_apply, own_apply hx ha, h]
  exact (EReal.coe_add _ _).symm

include hx ha hp in
/-- What a position of a sequence adds to the reference's loss. -/
theorem gap_apply (b : Fin 64) (n : Fin 128) :
    val_main_v80 (F := Ideal) x0 x1 x2 (ix2 b n) = ((gap a p (fun l => (T b l).val) n : ℝ) : EReal) := by
  have h : val_main_v77 (F := Ideal) x0 x1 x2 (ix2 b n)
      = ∑ j : Fin 20, Ideal.exp ((score a p n.val (tried (fun l => (T b l).val) n.val j.val) j.val : ℝ) : EReal) := by
    rw [val_main_v77_apply]
    refine (congrArg₂ (· + ·) start_zero (Finset.sum_congr rfl fun j _ => ?_)).trans (zero_add _)
    refine Eq.trans (congrArg Ideal.exp (congrArg _ ?_)) (congrArg Ideal.exp (triedScore_apply hx ha hp b n j))
    blk_ext []
  have h1 : val_main_v80 (F := Ideal) x0 x1 x2 (ix2 b n)
      = -(val_main_v74 (F := Ideal) x0 x1 x2 (ix2 b n) : EReal) + Ideal.log (val_main_v77 (F := Ideal) x0 x1 x2 (ix2 b n)) := rfl
  rw [h1, h, log_sum_exp, ownScore_apply hx ha hp, ← EReal.coe_neg, ← EReal.coe_add]
  unfold gap
  congr 1
  ring

include hx ha hp in
/-- The sum of the gaps. -/
theorem gaps_apply (i : S_.Idx) :
    val_main_v82 (F := Ideal) x0 x1 x2 i = ((∑ b : Fin 64, ∑ n : Fin 128, gap a p (fun l => (T b l).val) n : ℝ) : EReal) := by
  rw [val_main_v82_apply, coe_sum]
  refine (congrArg₂ (· + ·) start_zero rfl).trans ((zero_add _).trans ?_)
  refine Eq.trans ?_ (Finset.sum_congr rfl fun b _ => (coe_sum Finset.univ fun n => gap a p (fun l => (T b l).val) n).symm)
  refine Fintype.sum_equiv (⟨fun j => j 0, fun b => ix1 b, fun j => by blk_ext [], fun b => rfl⟩ : S64.Idx ≃ Fin 64) _ _ fun j => ?_
  rw [val_main_v81_apply]
  refine (congrArg₂ (· + ·) start_zero (Finset.sum_congr rfl fun n _ => ?_)).trans (zero_add _)
  refine Eq.trans (congrArg _ ?_) (gap_apply hx ha hp (j 0) n)
  blk_ext []

/-- The start of a sum does not count, and a sum down a single column runs over its rows. -/
theorem column_sum {N : ℕ} (f : (⟨2, ![N, 1]⟩ : Shape).Idx → EReal) (g : ℕ → ℝ) (h : ∀ q : Fin N, f (ix2 q 0) = ((g q.val : ℝ) : EReal)) :
    Ideal.ofBits .f32 0x00000000#32 + ∑ j, f j = ((∑ q : Fin N, g q.val : ℝ) : EReal) := by
  rw [start_zero, zero_add, coe_sum]
  refine Fintype.sum_equiv (⟨fun j => j 0, fun b => ix2 b 0, fun j => by blk_ext [], fun b => rfl⟩ : (⟨2, ![N, 1]⟩ : Shape).Idx ≃ Fin N) _ _ fun j => ?_
  refine Eq.trans (congrArg _ ?_) (h (j 0))
  blk_ext []

/-- Squares and absolute values summed apart, or together: first weights scaled by one, second by any real. -/
theorem regroup (D : EReal) (s r S R k : ℝ) :
    D + 1 * (s : EReal) + (k : EReal) * (S : EReal) + 1 * (r : EReal) + (k : EReal) * (R : EReal)
      = D + ((s + r : ℝ) : EReal) + (k : EReal) * ((S + R : ℝ) : EReal) := by
  rw [one_mul, one_mul]
  simp only [← EReal.coe_mul, add_assoc]
  congr 1
  simp only [← EReal.coe_add]
  congr 1
  ring

/-- The absolute value of a real, read in the extended reals. -/
theorem abs_coe (w : EReal) (v : ℝ) (h : w = (v : EReal)) : max w (-w) = ((|v| : ℝ) : EReal) := by
  rw [h, ← EReal.coe_neg]
  exact (EReal.coe_strictMono.monotone.map_max (a := v) (b := -v)).symm

include ha in
/-- The squares of the single weights. -/
theorem singleSquares (i : S_.Idx) : val_main_v85 (F := Ideal) x1 i = ((∑ q : Fin 2560, a q.val * a q.val : ℝ) : EReal) := by
  rw [val_main_v85_apply]
  refine column_sum _ (fun q => a q * a q) fun q => ?_
  rw [val_main_v84_apply, ha]
  exact (EReal.coe_mul _ _).symm

include ha in
/-- The absolute values of the single weights. -/
theorem singleSizes (i : S_.Idx) : val_main_v93 (F := Ideal) x1 i = ((∑ q : Fin 2560, |a q.val| : ℝ) : EReal) := by
  rw [val_main_v93_apply]
  exact column_sum _ (fun q => |a q|) fun q => abs_coe _ _ (ha q)

include hp in
/-- The squares of the pair weights. -/
theorem pairSquares (i : S_.Idx) : val_main_v89 (F := Ideal) x2 i = ((∑ q : Fin 6553600, p q.val * p q.val : ℝ) : EReal) := by
  rw [val_main_v89_apply]
  refine column_sum _ (fun q => p q * p q) fun q => ?_
  rw [val_main_v88_apply, hp]
  exact (EReal.coe_mul _ _).symm

include hp in
/-- The absolute values of the pair weights. -/
theorem pairSizes (i : S_.Idx) : val_main_v97 (F := Ideal) x2 i = ((∑ q : Fin 6553600, |p q.val| : ℝ) : EReal) := by
  rw [val_main_v97_apply]
  exact column_sum _ (fun q => |p q|) fun q => abs_coe _ _ (hp q)

/-- The penalties of a family of weights, summed together. -/
theorem sum_pen {N : ℕ} (g : ℕ → ℝ) : (∑ q : Fin N, g q.val * g q.val) + ∑ q : Fin N, |g q.val| = ∑ q : Fin N, pen (g q.val) :=
  Finset.sum_add_distrib.symm

/-- The reference's last steps: the mean and the four regularisers added up. -/
theorem total_apply (y z : Fin 1) : val_main_v100 (F := Ideal) x0 x1 x2 (ix2 y z)
    = Ideal.div (val_main_v82 (F := Ideal) x0 x1 x2 ix0) (Ideal.ofBits .f32 1115684864#32)
      + Ideal.ofBits .f32 1065353216#32 * val_main_v85 (F := Ideal) x1 ix0
      + Ideal.ofBits .f32 1103835955#32 * val_main_v89 (F := Ideal) x2 ix0
      + Ideal.ofBits .f32 1065353216#32 * val_main_v93 (F := Ideal) x1 ix0
      + Ideal.ofBits .f32 1103835955#32 * val_main_v97 (F := Ideal) x2 ix0 := by
  have hv : val_main_v100 (F := Ideal) x0 x1 x2 (ix2 y z) = val_main_v99 (F := Ideal) x0 x1 x2 ix0 := by
    unfold val_main_v100
    generalize val_main_v99 (F := Ideal) x0 x1 x2 = V
    pointwise
  rw [hv, val_main_v99_apply, val_main_v98_apply, val_main_v95_apply, val_main_v94_apply, val_main_v91_apply,
    val_main_v90_apply, val_main_v87_apply, val_main_v86_apply, val_main_v83_apply]
  generalize val_main_v82 (F := Ideal) x0 x1 x2 ix0 = A
  generalize val_main_v85 (F := Ideal) x1 ix0 = B
  generalize val_main_v89 (F := Ideal) x2 ix0 = C
  generalize val_main_v93 (F := Ideal) x1 ix0 = D
  generalize val_main_v97 (F := Ideal) x2 ix0 = E
  rfl

/-- The first weight of the regularisers is one. -/
theorem one_weight : Ideal.ofBits .f32 1065353216#32 = (1 : EReal) := by
  simp [Ideal.ofBits, Ideal.ieee, -EReal.coe_mul]
  norm_num

/-- The second weight of the regularisers is a real. -/
theorem other_weight : ∃ k : ℝ, Ideal.ofBits .f32 1103835955#32 = (k : EReal) := by
  simp [Ideal.ofBits, Ideal.ieee, -EReal.coe_mul]

include hx ha hp in
/-- The reference's result is the loss, once the tokens and the weights have been read off as numbers. -/
theorem reference_loss (y z : Fin 1) : val_main_v100 (F := Ideal) x0 x1 x2 (ix2 y z) = loss a p fun b l => (T b l).val := by
  obtain ⟨k, hk⟩ := other_weight
  rw [total_apply, gaps_apply hx ha hp, singleSquares ha, pairSquares hp, singleSizes ha, pairSizes hp, one_weight, hk, regroup,
    sum_pen, sum_pen, ← hk]
  rfl

end Cert.Mrf

end
-- ==== Proof.Together.lean ====
module

public import proofs.«01_k».proof.Defs
public import proofs.«01_k».proof.Proof.Arrays
public import proofs.«01_k».proof.Proof.Inputs
public import proofs.«01_k».proof.Proof.Reference
public import proofs.«01_k».proof.Proof.Gen.ReferenceIdeal.Run
public import Idealize.ShloMosaic.Lib.Quiescent

/-!
# The kernel and the reference together

Both programs end with the same number, the loss, and leave their arguments as they were.
-/

@[expose] public section

set_option maxRecDepth 16384

noncomputable section

namespace Cert.Mrf

open Idealize.ShloMosaic Idealize.ShloMosaic.TcCoe Idealize.SL.Sem

/-- The reference leaves its arguments as they were, and every semaphore counter at zero: it has none. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run _ _ _).mono (fun _ h => ⟨fun c => (h c).2, sem_eq_zero_of_no_sems (by decide) _⟩) (Cert.ReferenceIdeal.Value.run m g)

/-- Where the precondition holds and the arguments agree, the kernel's result is the reference's. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_tokens_and_finite m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (Cert.ReferenceIdeal.Value.res_main_v100 m' c : FVec Ideal Cert.ReferenceIdeal.S1x1 .f32) = Cert.KernelIdeal.Value.G3 m c := by
  obtain ⟨p0, p1, p2⟩ := hpre c
  obtain ⟨T, hT⟩ := tokens_of_pre p0
  obtain ⟨a, ha⟩ := singles_of_pre p1
  obtain ⟨p, hp⟩ := pairs_of_pre p2
  funext i
  obtain ⟨y, z, rfl⟩ : ∃ (y z : Fin 1), i = ix2 y z := ⟨i 0, i 1, by blk_ext []⟩
  rw [Cert.ReferenceIdeal.Read.val_main_v100_eq, h0, h1, h2]
  exact (reference_loss (fun b l => (hT b l).2) ha hp y z).trans
    (kernel_loss m c T a p (fun b l => (hT b l).1) ha hp y z).symm

/-- From arguments that agree and meet the precondition, the kernel and the reference end with the same result. -/
theorem same_loss : Cert.algebraic_KernelIdeal_ReferenceIdeal_pre_tokens_and_finite := by
  intro m g m' g' hpre hagree
  refine ⟨fun c => Cert.KernelIdeal.Value.G3 m c, Cert.KernelIdeal.Value.run m g, ?_⟩
  refine (θ_run _ _ _).mono (fun _ h c => ⟨(h c).1.trans ?_, (h c).2⟩) (Cert.ReferenceIdeal.Value.run m' g')
  exact same_result m m' hpre c (hagree c).1 (hagree c).2.1 (hagree c).2.2

end Cert.Mrf

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_tokens_and_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Together
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_tokens_and_finite.Gen.facts,
  fun m g _ => Cert.Kernel.Gen.frame m g,
  fun m g _ => Cert.KernelIdeal.Gen.frame m g,
  fun m g _ => Cert.KernelIdeal.Gen.frame m g,
  fun m g _ => Cert.Mrf.reference_frame m g,
  fun m g _ => Cert.Mrf.reference_frame m g,
  trivial,
  Cert.Mrf.same_loss⟩

end Cert.Proof

end
